-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S1 : Shape := ⟨1, ![1]⟩
abbrev S2x256x512 : Shape := ⟨3, ![2, 256, 512]⟩
abbrev S2 : Shape := ⟨1, ![2]⟩
abbrev S_ : Shape := ⟨0, ![]⟩
abbrev S256x256 : Shape := ⟨2, ![256, 256]⟩
abbrev S256x512 : Shape := ⟨2, ![256, 512]⟩
abbrev S1x256x512 : Shape := ⟨3, ![1, 256, 512]⟩

abbrev nBuf : Space → Nat
  | .hbm => 5
  | .vmem => 13
  | .smem => 2
  | _ => 0

abbrev bufTy : (tb : Table) → Fin (tcTables nBuf tb) → BufTy
  | .hbm, ⟨0, _⟩ => ⟨S4096x256, .i8⟩
  | .hbm, ⟨1, _⟩ => ⟨S256x2048, .i8⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .i8⟩
  | .local _ .vmem, ⟨1, _⟩ => ⟨S256x2048, .i8⟩
  | .local _ .vmem, ⟨2, _⟩ => ⟨S256x2048, .f32⟩
  | .local _ .vmem, ⟨3, _⟩ => ⟨S4096x256, .bf16⟩
  | .local _ .vmem, ⟨4, _⟩ => ⟨S256x2048, .bf16⟩
  | .local _ .vmem, ⟨5, _⟩ => ⟨S2x256x512, .bf16⟩
  | .local _ .vmem, ⟨6, _⟩ => ⟨S2x256x512, .bf16⟩
  | .local _ .vmem, ⟨7, _⟩ => ⟨S2x256x512, .bf16⟩
  | .local _ .vmem, ⟨8, _⟩ => ⟨S2x256x512, .bf16⟩
  | .local _ .vmem, ⟨9, _⟩ => ⟨S2x256x512, .bf16⟩
  | .local _ .vmem, ⟨10, _⟩ => ⟨S2x256x512, .bf16⟩
  | .local _ .vmem, ⟨11, _⟩ => ⟨S2x256x512, .bf16⟩
  | .local _ .vmem, ⟨12, _⟩ => ⟨S2x256x512, .bf16⟩
  | .local _ .smem, ⟨0, _⟩ => ⟨S1, .f32⟩
  | .local _ .smem, ⟨1, _⟩ => ⟨S1, .f32⟩
  | _, _ => ⟨S4096x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 5 21 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch12 : Ref sig .tc := ⟨.vmem, 9, rfl⟩
abbrev cc0_scratch13 : Ref sig .tc := ⟨.vmem, 10, rfl⟩
abbrev cc0_scratch17 : Ref sig .tc := ⟨.vmem, 11, rfl⟩
abbrev cc0_scratch18 : Ref sig .tc := ⟨.vmem, 12, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c1_i32_20 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v28 : BitVec 32 := Scalar.subi v2 c1_i32_20
  let c32_i32 : BitVec 32 := 32#32
  let v29 : BitVec 32 := Scalar.addi v28 c32_i32
  let c16_i32_21 : BitVec 32 := 16#32
  let v30 : BitVec 32 := Scalar.remsi v29 c16_i32_21
  let c256_i32 : BitVec 32 := 256#32
  let v31 : BitVec 32 := Scalar.muli v30 c256_i32
  let v32 : Index := Scalar.indexCast v31
  let c0_22 : Index := 0#32
  ![v32.toNat, 0]
def k0_off1_at (r : Fin 30) : BitVec 32 :=
  if r.val < 15 then
    if r.val < 7 then
      if r.val < 3 then
        if r.val < 1 then
          1#32
        else
          if r.val < 2 then
            4294967295#32
          else
            2#32
      else
        if r.val < 5 then
          if r.val < 4 then
            4294967294#32
          else
            3#32
        else
          if r.val < 6 then
            4294967293#32
          else
            4#32
    else
      if r.val < 11 then
        if r.val < 9 then
          if r.val < 8 then
            4294967292#32
          else
            5#32
        else
          if r.val < 10 then
            4294967291#32
          else
            6#32
      else
        if r.val < 13 then
          if r.val < 12 then
            4294967290#32
          else
            7#32
        else
          if r.val < 14 then
            4294967289#32
          else
            8#32
  else
    if r.val < 22 then
      if r.val < 18 then
        if r.val < 16 then
          4294967288#32
        else
          if r.val < 17 then
            9#32
          else
            4294967287#32
      else
        if r.val < 20 then
          if r.val < 19 then
            10#32
          else
            4294967286#32
        else
          if r.val < 21 then
            11#32
          else
            4294967285#32
    else
      if r.val < 26 then
        if r.val < 24 then
          if r.val < 23 then
            12#32
          else
            4294967284#32
        else
          if r.val < 25 then
            13#32
          else
            4294967283#32
      else
        if r.val < 28 then
          if r.val < 27 then
            14#32
          else
            4294967282#32
        else
          if r.val < 29 then
            15#32
          else
            4294967281#32
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v25 : BitVec 32 := Scalar.addi v2 c1_i32_17
  let c16_i32_18 : BitVec 32 := 16#32
  let v26 : BitVec 32 := Scalar.addi v25 c16_i32_18
  let c16_i32_19 : BitVec 32 := 16#32
  let v27 : BitVec 32 := Scalar.remsi v26 c16_i32_19
  let c1_i32_32 : BitVec 32 := 1#32
  let v40 : BitVec 32 := Scalar.muli v27 c1_i32_32
  let v41 : BitVec 32 := Scalar.addi c0_i32_33 v40
  v41.toNat
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32 : BitVec 32 := 4294967295#32
  let v50 : BitVec 32 := Scalar.addi v2 c_m1_i32
  let c16_i32_38 : BitVec 32 := 16#32
  let v51 : BitVec 32 := Scalar.addi v50 c16_i32_38
  let c16_i32_39 : BitVec 32 := 16#32
  let v52 : BitVec 32 := Scalar.remsi v51 c16_i32_39
  let c1_i32_54 : BitVec 32 := 1#32
  let v65 : BitVec 32 := Scalar.muli v52 c1_i32_54
  let v66 : BitVec 32 := Scalar.addi c0_i32_55 v65
  v66.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_60 : BitVec 32 := 1#32
  let v75 : BitVec 32 := Scalar.addi v2 c1_i32_60
  let c16_i32_61 : BitVec 32 := 16#32
  let v76 : BitVec 32 := Scalar.addi v75 c16_i32_61
  let c16_i32_62 : BitVec 32 := 16#32
  let v77 : BitVec 32 := Scalar.remsi v76 c16_i32_62
  let c1_i32_77 : BitVec 32 := 1#32
  let v90 : BitVec 32 := Scalar.muli v77 c1_i32_77
  let v91 : BitVec 32 := Scalar.addi c0_i32_78 v90
  v91.toNat
def k0_dev6 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_83 : BitVec 32 := 4294967295#32
  let v100 : BitVec 32 := Scalar.addi v2 c_m1_i32_83
  let c16_i32_84 : BitVec 32 := 16#32
  let v101 : BitVec 32 := Scalar.addi v100 c16_i32_84
  let c16_i32_85 : BitVec 32 := 16#32
  let v102 : BitVec 32 := Scalar.remsi v101 c16_i32_85
  let c1_i32_100 : BitVec 32 := 1#32
  let v115 : BitVec 32 := Scalar.muli v102 c1_i32_100
  let v116 : BitVec 32 := Scalar.addi c0_i32_101 v115
  v116.toNat
def k0_dev7 (d0 : Dev nD) : Nat :=
  let c0_i32_135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_109 : BitVec 32 := 1#32
  let v128 : BitVec 32 := Scalar.subi v2 c1_i32_109
  let c16_i32_110 : BitVec 32 := 16#32
  let v129 : BitVec 32 := Scalar.addi v128 c16_i32_110
  let c16_i32_111 : BitVec 32 := 16#32
  let v130 : BitVec 32 := Scalar.remsi v129 c16_i32_111
  let c1_i32_134 : BitVec 32 := 1#32
  let v151 : BitVec 32 := Scalar.muli v130 c1_i32_134
  let v152 : BitVec 32 := Scalar.addi c0_i32_135 v151
  v152.toNat
def k0_dev8 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_106 : BitVec 32 := 1#32
  let v125 : BitVec 32 := Scalar.addi v2 c1_i32_106
  let c16_i32_107 : BitVec 32 := 16#32
  let v126 : BitVec 32 := Scalar.addi v125 c16_i32_107
  let c16_i32_108 : BitVec 32 := 16#32
  let v127 : BitVec 32 := Scalar.remsi v126 c16_i32_108
  let c1_i32_142 : BitVec 32 := 1#32
  let v156 : BitVec 32 := Scalar.muli v127 c1_i32_142
  let v157 : BitVec 32 := Scalar.addi c0_i32_143 v156
  v157.toNat
def k0_dev9 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_151 : BitVec 32 := 4294967295#32
  let v169 : BitVec 32 := Scalar.subi v2 c_m1_i32_151
  let c16_i32_152 : BitVec 32 := 16#32
  let v170 : BitVec 32 := Scalar.addi v169 c16_i32_152
  let c16_i32_153 : BitVec 32 := 16#32
  let v171 : BitVec 32 := Scalar.remsi v170 c16_i32_153
  let c1_i32_175 : BitVec 32 := 1#32
  let v192 : BitVec 32 := Scalar.muli v171 c1_i32_175
  let v193 : BitVec 32 := Scalar.addi c0_i32_176 v192
  v193.toNat
def k0_dev10 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_148 : BitVec 32 := 4294967295#32
  let v166 : BitVec 32 := Scalar.addi v2 c_m1_i32_148
  let c16_i32_149 : BitVec 32 := 16#32
  let v167 : BitVec 32 := Scalar.addi v166 c16_i32_149
  let c16_i32_150 : BitVec 32 := 16#32
  let v168 : BitVec 32 := Scalar.remsi v167 c16_i32_150
  let c1_i32_184 : BitVec 32 := 1#32
  let v197 : BitVec 32 := Scalar.muli v168 c1_i32_184
  let v198 : BitVec 32 := Scalar.addi c0_i32_185 v197
  v198.toNat
def k0_dev11 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_193 : BitVec 32 := 1#32
  let v210 : BitVec 32 := Scalar.subi v2 c1_i32_193
  let c16_i32_194 : BitVec 32 := 16#32
  let v211 : BitVec 32 := Scalar.addi v210 c16_i32_194
  let c16_i32_195 : BitVec 32 := 16#32
  let v212 : BitVec 32 := Scalar.remsi v211 c16_i32_195
  let c1_i32_218 : BitVec 32 := 1#32
  let v233 : BitVec 32 := Scalar.muli v212 c1_i32_218
  let v234 : BitVec 32 := Scalar.addi c0_i32_219 v233
  v234.toNat
def k0_dev12 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_190 : BitVec 32 := 1#32
  let v207 : BitVec 32 := Scalar.addi v2 c1_i32_190
  let c16_i32_191 : BitVec 32 := 16#32
  let v208 : BitVec 32 := Scalar.addi v207 c16_i32_191
  let c16_i32_192 : BitVec 32 := 16#32
  let v209 : BitVec 32 := Scalar.remsi v208 c16_i32_192
  let c1_i32_227 : BitVec 32 := 1#32
  let v238 : BitVec 32 := Scalar.muli v209 c1_i32_227
  let v239 : BitVec 32 := Scalar.addi c0_i32_228 v238
  v239.toNat
def k0_dev13 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_236 : BitVec 32 := 4294967295#32
  let v251 : BitVec 32 := Scalar.subi v2 c_m1_i32_236
  let c16_i32_237 : BitVec 32 := 16#32
  let v252 : BitVec 32 := Scalar.addi v251 c16_i32_237
  let c16_i32_238 : BitVec 32 := 16#32
  let v253 : BitVec 32 := Scalar.remsi v252 c16_i32_238
  let c1_i32_261 : BitVec 32 := 1#32
  let v274 : BitVec 32 := Scalar.muli v253 c1_i32_261
  let v275 : BitVec 32 := Scalar.addi c0_i32_262 v274
  v275.toNat
def k0_dev14 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_233 : BitVec 32 := 4294967295#32
  let v248 : BitVec 32 := Scalar.addi v2 c_m1_i32_233
  let c16_i32_234 : BitVec 32 := 16#32
  let v249 : BitVec 32 := Scalar.addi v248 c16_i32_234
  let c16_i32_235 : BitVec 32 := 16#32
  let v250 : BitVec 32 := Scalar.remsi v249 c16_i32_235
  let c1_i32_270 : BitVec 32 := 1#32
  let v279 : BitVec 32 := Scalar.muli v250 c1_i32_270
  let v280 : BitVec 32 := Scalar.addi c0_i32_271 v279
  v280.toNat
def k0_dev15 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_279 : BitVec 32 := 1#32
  let v292 : BitVec 32 := Scalar.subi v2 c1_i32_279
  let c16_i32_280 : BitVec 32 := 16#32
  let v293 : BitVec 32 := Scalar.addi v292 c16_i32_280
  let c16_i32_281 : BitVec 32 := 16#32
  let v294 : BitVec 32 := Scalar.remsi v293 c16_i32_281
  let c1_i32_303 : BitVec 32 := 1#32
  let v315 : BitVec 32 := Scalar.muli v294 c1_i32_303
  let v316 : BitVec 32 := Scalar.addi c0_i32_304 v315
  v316.toNat
def k0_dev16 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_276 : BitVec 32 := 1#32
  let v289 : BitVec 32 := Scalar.addi v2 c1_i32_276
  let c16_i32_277 : BitVec 32 := 16#32
  let v290 : BitVec 32 := Scalar.addi v289 c16_i32_277
  let c16_i32_278 : BitVec 32 := 16#32
  let v291 : BitVec 32 := Scalar.remsi v290 c16_i32_278
  let c1_i32_323 : BitVec 32 := 1#32
  let v326 : BitVec 32 := Scalar.muli v291 c1_i32_323
  let v327 : BitVec 32 := Scalar.addi c0_i32_324 v326
  v327.toNat
def k0_dev17 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_332 : BitVec 32 := 4294967295#32
  let v339 : BitVec 32 := Scalar.subi v2 c_m1_i32_332
  let c16_i32_333 : BitVec 32 := 16#32
  let v340 : BitVec 32 := Scalar.addi v339 c16_i32_333
  let c16_i32_334 : BitVec 32 := 16#32
  let v341 : BitVec 32 := Scalar.remsi v340 c16_i32_334
  let c1_i32_356 : BitVec 32 := 1#32
  let v362 : BitVec 32 := Scalar.muli v341 c1_i32_356
  let v363 : BitVec 32 := Scalar.addi c0_i32_357 v362
  v363.toNat
def k0_dev18 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_329 : BitVec 32 := 4294967295#32
  let v336 : BitVec 32 := Scalar.addi v2 c_m1_i32_329
  let c16_i32_330 : BitVec 32 := 16#32
  let v337 : BitVec 32 := Scalar.addi v336 c16_i32_330
  let c16_i32_331 : BitVec 32 := 16#32
  let v338 : BitVec 32 := Scalar.remsi v337 c16_i32_331
  let c1_i32_376 : BitVec 32 := 1#32
  let v373 : BitVec 32 := Scalar.muli v338 c1_i32_376
  let v374 : BitVec 32 := Scalar.addi c0_i32_377 v373
  v374.toNat
def k0_dev19 (d0 : Dev nD) : Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_385 : BitVec 32 := 1#32
  let v386 : BitVec 32 := Scalar.subi v2 c1_i32_385
  let c16_i32_386 : BitVec 32 := 16#32
  let v387 : BitVec 32 := Scalar.addi v386 c16_i32_386
  let c16_i32_387 : BitVec 32 := 16#32
  let v388 : BitVec 32 := Scalar.remsi v387 c16_i32_387
  let c1_i32_410 : BitVec 32 := 1#32
  let v409 : BitVec 32 := Scalar.muli v388 c1_i32_410
  let v410 : BitVec 32 := Scalar.addi c0_i32_411 v409
  v410.toNat
def k0_dev20 (d0 : Dev nD) : Nat :=
  let c0_i32_431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_382 : BitVec 32 := 1#32
  let v383 : BitVec 32 := Scalar.addi v2 c1_i32_382
  let c16_i32_383 : BitVec 32 := 16#32
  let v384 : BitVec 32 := Scalar.addi v383 c16_i32_383
  let c16_i32_384 : BitVec 32 := 16#32
  let v385 : BitVec 32 := Scalar.remsi v384 c16_i32_384
  let c1_i32_430 : BitVec 32 := 1#32
  let v420 : BitVec 32 := Scalar.muli v385 c1_i32_430
  let v421 : BitVec 32 := Scalar.addi c0_i32_431 v420
  v421.toNat
def k0_dev21 (d0 : Dev nD) : Nat :=
  let c0_i32_465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_439 : BitVec 32 := 4294967295#32
  let v433 : BitVec 32 := Scalar.subi v2 c_m1_i32_439
  let c16_i32_440 : BitVec 32 := 16#32
  let v434 : BitVec 32 := Scalar.addi v433 c16_i32_440
  let c16_i32_441 : BitVec 32 := 16#32
  let v435 : BitVec 32 := Scalar.remsi v434 c16_i32_441
  let c1_i32_464 : BitVec 32 := 1#32
  let v456 : BitVec 32 := Scalar.muli v435 c1_i32_464
  let v457 : BitVec 32 := Scalar.addi c0_i32_465 v456
  v457.toNat
def k0_dev22 (d0 : Dev nD) : Nat :=
  let c0_i32_485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_436 : BitVec 32 := 4294967295#32
  let v430 : BitVec 32 := Scalar.addi v2 c_m1_i32_436
  let c16_i32_437 : BitVec 32 := 16#32
  let v431 : BitVec 32 := Scalar.addi v430 c16_i32_437
  let c16_i32_438 : BitVec 32 := 16#32
  let v432 : BitVec 32 := Scalar.remsi v431 c16_i32_438
  let c1_i32_484 : BitVec 32 := 1#32
  let v467 : BitVec 32 := Scalar.muli v432 c1_i32_484
  let v468 : BitVec 32 := Scalar.addi c0_i32_485 v467
  v468.toNat
def k0_dev23 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_493 : BitVec 32 := 1#32
  let v480 : BitVec 32 := Scalar.subi v2 c1_i32_493
  let c16_i32_494 : BitVec 32 := 16#32
  let v481 : BitVec 32 := Scalar.addi v480 c16_i32_494
  let c16_i32_495 : BitVec 32 := 16#32
  let v482 : BitVec 32 := Scalar.remsi v481 c16_i32_495
  let c1_i32_517 : BitVec 32 := 1#32
  let v503 : BitVec 32 := Scalar.muli v482 c1_i32_517
  let v504 : BitVec 32 := Scalar.addi c0_i32_518 v503
  v504.toNat
def k0_dev24 (d0 : Dev nD) : Nat :=
  let c0_i32_538 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_490 : BitVec 32 := 1#32
  let v477 : BitVec 32 := Scalar.addi v2 c1_i32_490
  let c16_i32_491 : BitVec 32 := 16#32
  let v478 : BitVec 32 := Scalar.addi v477 c16_i32_491
  let c16_i32_492 : BitVec 32 := 16#32
  let v479 : BitVec 32 := Scalar.remsi v478 c16_i32_492
  let c1_i32_537 : BitVec 32 := 1#32
  let v514 : BitVec 32 := Scalar.muli v479 c1_i32_537
  let v515 : BitVec 32 := Scalar.addi c0_i32_538 v514
  v515.toNat
def k0_dev25 (d0 : Dev nD) : Nat :=
  let c0_i32_571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_546 : BitVec 32 := 4294967295#32
  let v527 : BitVec 32 := Scalar.subi v2 c_m1_i32_546
  let c16_i32_547 : BitVec 32 := 16#32
  let v528 : BitVec 32 := Scalar.addi v527 c16_i32_547
  let c16_i32_548 : BitVec 32 := 16#32
  let v529 : BitVec 32 := Scalar.remsi v528 c16_i32_548
  let c1_i32_570 : BitVec 32 := 1#32
  let v550 : BitVec 32 := Scalar.muli v529 c1_i32_570
  let v551 : BitVec 32 := Scalar.addi c0_i32_571 v550
  v551.toNat
def k0_dev26 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_543 : BitVec 32 := 4294967295#32
  let v524 : BitVec 32 := Scalar.addi v2 c_m1_i32_543
  let c16_i32_544 : BitVec 32 := 16#32
  let v525 : BitVec 32 := Scalar.addi v524 c16_i32_544
  let c16_i32_545 : BitVec 32 := 16#32
  let v526 : BitVec 32 := Scalar.remsi v525 c16_i32_545
  let c1_i32_590 : BitVec 32 := 1#32
  let v561 : BitVec 32 := Scalar.muli v526 c1_i32_590
  let v562 : BitVec 32 := Scalar.addi c0_i32_591 v561
  v562.toNat
def k0_dev27 (d0 : Dev nD) : Nat :=
  let c0_i32_625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_599 : BitVec 32 := 1#32
  let v574 : BitVec 32 := Scalar.subi v2 c1_i32_599
  let c16_i32_600 : BitVec 32 := 16#32
  let v575 : BitVec 32 := Scalar.addi v574 c16_i32_600
  let c16_i32_601 : BitVec 32 := 16#32
  let v576 : BitVec 32 := Scalar.remsi v575 c16_i32_601
  let c1_i32_624 : BitVec 32 := 1#32
  let v597 : BitVec 32 := Scalar.muli v576 c1_i32_624
  let v598 : BitVec 32 := Scalar.addi c0_i32_625 v597
  v598.toNat
def k0_dev28 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_596 : BitVec 32 := 1#32
  let v571 : BitVec 32 := Scalar.addi v2 c1_i32_596
  let c16_i32_597 : BitVec 32 := 16#32
  let v572 : BitVec 32 := Scalar.addi v571 c16_i32_597
  let c16_i32_598 : BitVec 32 := 16#32
  let v573 : BitVec 32 := Scalar.remsi v572 c16_i32_598
  let c1_i32_644 : BitVec 32 := 1#32
  let v608 : BitVec 32 := Scalar.muli v573 c1_i32_644
  let v609 : BitVec 32 := Scalar.addi c0_i32_645 v608
  v609.toNat
def k0_dev29 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_653 : BitVec 32 := 4294967295#32
  let v621 : BitVec 32 := Scalar.subi v2 c_m1_i32_653
  let c16_i32_654 : BitVec 32 := 16#32
  let v622 : BitVec 32 := Scalar.addi v621 c16_i32_654
  let c16_i32_655 : BitVec 32 := 16#32
  let v623 : BitVec 32 := Scalar.remsi v622 c16_i32_655
  let c1_i32_678 : BitVec 32 := 1#32
  let v644 : BitVec 32 := Scalar.muli v623 c1_i32_678
  let v645 : BitVec 32 := Scalar.addi c0_i32_679 v644
  v645.toNat
def k0_dev30 (d0 : Dev nD) : Nat :=
  let c0_i32_699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_650 : BitVec 32 := 4294967295#32
  let v618 : BitVec 32 := Scalar.addi v2 c_m1_i32_650
  let c16_i32_651 : BitVec 32 := 16#32
  let v619 : BitVec 32 := Scalar.addi v618 c16_i32_651
  let c16_i32_652 : BitVec 32 := 16#32
  let v620 : BitVec 32 := Scalar.remsi v619 c16_i32_652
  let c1_i32_698 : BitVec 32 := 1#32
  let v655 : BitVec 32 := Scalar.muli v620 c1_i32_698
  let v656 : BitVec 32 := Scalar.addi c0_i32_699 v655
  v656.toNat
def k0_dev31 (d0 : Dev nD) : Nat :=
  let c0_i32_732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_707 : BitVec 32 := 1#32
  let v668 : BitVec 32 := Scalar.subi v2 c1_i32_707
  let c16_i32_708 : BitVec 32 := 16#32
  let v669 : BitVec 32 := Scalar.addi v668 c16_i32_708
  let c16_i32_709 : BitVec 32 := 16#32
  let v670 : BitVec 32 := Scalar.remsi v669 c16_i32_709
  let c1_i32_731 : BitVec 32 := 1#32
  let v691 : BitVec 32 := Scalar.muli v670 c1_i32_731
  let v692 : BitVec 32 := Scalar.addi c0_i32_732 v691
  v692.toNat
def k0_dev32 (d0 : Dev nD) : Nat :=
  let c0_i32_752 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_704 : BitVec 32 := 1#32
  let v665 : BitVec 32 := Scalar.addi v2 c1_i32_704
  let c16_i32_705 : BitVec 32 := 16#32
  let v666 : BitVec 32 := Scalar.addi v665 c16_i32_705
  let c16_i32_706 : BitVec 32 := 16#32
  let v667 : BitVec 32 := Scalar.remsi v666 c16_i32_706
  let c1_i32_751 : BitVec 32 := 1#32
  let v702 : BitVec 32 := Scalar.muli v667 c1_i32_751
  let v703 : BitVec 32 := Scalar.addi c0_i32_752 v702
  v703.toNat
def k0_dev33 (d0 : Dev nD) : Nat :=
  let c0_i32_785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_760 : BitVec 32 := 4294967295#32
  let v715 : BitVec 32 := Scalar.subi v2 c_m1_i32_760
  let c16_i32_761 : BitVec 32 := 16#32
  let v716 : BitVec 32 := Scalar.addi v715 c16_i32_761
  let c16_i32_762 : BitVec 32 := 16#32
  let v717 : BitVec 32 := Scalar.remsi v716 c16_i32_762
  let c1_i32_784 : BitVec 32 := 1#32
  let v738 : BitVec 32 := Scalar.muli v717 c1_i32_784
  let v739 : BitVec 32 := Scalar.addi c0_i32_785 v738
  v739.toNat
def k0_dev34 (d0 : Dev nD) : Nat :=
  let c0_i32_805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_757 : BitVec 32 := 4294967295#32
  let v712 : BitVec 32 := Scalar.addi v2 c_m1_i32_757
  let c16_i32_758 : BitVec 32 := 16#32
  let v713 : BitVec 32 := Scalar.addi v712 c16_i32_758
  let c16_i32_759 : BitVec 32 := 16#32
  let v714 : BitVec 32 := Scalar.remsi v713 c16_i32_759
  let c1_i32_804 : BitVec 32 := 1#32
  let v749 : BitVec 32 := Scalar.muli v714 c1_i32_804
  let v750 : BitVec 32 := Scalar.addi c0_i32_805 v749
  v750.toNat
def k0_dev35 (d0 : Dev nD) : Nat :=
  let c0_i32_839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_813 : BitVec 32 := 1#32
  let v762 : BitVec 32 := Scalar.subi v2 c1_i32_813
  let c16_i32_814 : BitVec 32 := 16#32
  let v763 : BitVec 32 := Scalar.addi v762 c16_i32_814
  let c16_i32_815 : BitVec 32 := 16#32
  let v764 : BitVec 32 := Scalar.remsi v763 c16_i32_815
  let c1_i32_838 : BitVec 32 := 1#32
  let v785 : BitVec 32 := Scalar.muli v764 c1_i32_838
  let v786 : BitVec 32 := Scalar.addi c0_i32_839 v785
  v786.toNat
def k0_dev36 (d0 : Dev nD) : Nat :=
  let c0_i32_859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_810 : BitVec 32 := 1#32
  let v759 : BitVec 32 := Scalar.addi v2 c1_i32_810
  let c16_i32_811 : BitVec 32 := 16#32
  let v760 : BitVec 32 := Scalar.addi v759 c16_i32_811
  let c16_i32_812 : BitVec 32 := 16#32
  let v761 : BitVec 32 := Scalar.remsi v760 c16_i32_812
  let c1_i32_858 : BitVec 32 := 1#32
  let v796 : BitVec 32 := Scalar.muli v761 c1_i32_858
  let v797 : BitVec 32 := Scalar.addi c0_i32_859 v796
  v797.toNat
def k0_dev37 (d0 : Dev nD) : Nat :=
  let c0_i32_893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_867 : BitVec 32 := 4294967295#32
  let v809 : BitVec 32 := Scalar.subi v2 c_m1_i32_867
  let c16_i32_868 : BitVec 32 := 16#32
  let v810 : BitVec 32 := Scalar.addi v809 c16_i32_868
  let c16_i32_869 : BitVec 32 := 16#32
  let v811 : BitVec 32 := Scalar.remsi v810 c16_i32_869
  let c1_i32_892 : BitVec 32 := 1#32
  let v832 : BitVec 32 := Scalar.muli v811 c1_i32_892
  let v833 : BitVec 32 := Scalar.addi c0_i32_893 v832
  v833.toNat
def k0_dev38 (d0 : Dev nD) : Nat :=
  let c0_i32_913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_864 : BitVec 32 := 4294967295#32
  let v806 : BitVec 32 := Scalar.addi v2 c_m1_i32_864
  let c16_i32_865 : BitVec 32 := 16#32
  let v807 : BitVec 32 := Scalar.addi v806 c16_i32_865
  let c16_i32_866 : BitVec 32 := 16#32
  let v808 : BitVec 32 := Scalar.remsi v807 c16_i32_866
  let c1_i32_912 : BitVec 32 := 1#32
  let v843 : BitVec 32 := Scalar.muli v808 c1_i32_912
  let v844 : BitVec 32 := Scalar.addi c0_i32_913 v843
  v844.toNat
def k0_dev39 (d0 : Dev nD) : Nat :=
  let c0_i32_946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_921 : BitVec 32 := 1#32
  let v856 : BitVec 32 := Scalar.subi v2 c1_i32_921
  let c16_i32_922 : BitVec 32 := 16#32
  let v857 : BitVec 32 := Scalar.addi v856 c16_i32_922
  let c16_i32_923 : BitVec 32 := 16#32
  let v858 : BitVec 32 := Scalar.remsi v857 c16_i32_923
  let c1_i32_945 : BitVec 32 := 1#32
  let v879 : BitVec 32 := Scalar.muli v858 c1_i32_945
  let v880 : BitVec 32 := Scalar.addi c0_i32_946 v879
  v880.toNat
def k0_dev40 (d0 : Dev nD) : Nat :=
  let c0_i32_966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_918 : BitVec 32 := 1#32
  let v853 : BitVec 32 := Scalar.addi v2 c1_i32_918
  let c16_i32_919 : BitVec 32 := 16#32
  let v854 : BitVec 32 := Scalar.addi v853 c16_i32_919
  let c16_i32_920 : BitVec 32 := 16#32
  let v855 : BitVec 32 := Scalar.remsi v854 c16_i32_920
  let c1_i32_965 : BitVec 32 := 1#32
  let v890 : BitVec 32 := Scalar.muli v855 c1_i32_965
  let v891 : BitVec 32 := Scalar.addi c0_i32_966 v890
  v891.toNat
def k0_dev41 (d0 : Dev nD) : Nat :=
  let c0_i32_999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_974 : BitVec 32 := 4294967295#32
  let v903 : BitVec 32 := Scalar.subi v2 c_m1_i32_974
  let c16_i32_975 : BitVec 32 := 16#32
  let v904 : BitVec 32 := Scalar.addi v903 c16_i32_975
  let c16_i32_976 : BitVec 32 := 16#32
  let v905 : BitVec 32 := Scalar.remsi v904 c16_i32_976
  let c1_i32_998 : BitVec 32 := 1#32
  let v926 : BitVec 32 := Scalar.muli v905 c1_i32_998
  let v927 : BitVec 32 := Scalar.addi c0_i32_999 v926
  v927.toNat
def k0_dev42 (d0 : Dev nD) : Nat :=
  let c0_i32_1019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_971 : BitVec 32 := 4294967295#32
  let v900 : BitVec 32 := Scalar.addi v2 c_m1_i32_971
  let c16_i32_972 : BitVec 32 := 16#32
  let v901 : BitVec 32 := Scalar.addi v900 c16_i32_972
  let c16_i32_973 : BitVec 32 := 16#32
  let v902 : BitVec 32 := Scalar.remsi v901 c16_i32_973
  let c1_i32_1018 : BitVec 32 := 1#32
  let v937 : BitVec 32 := Scalar.muli v902 c1_i32_1018
  let v938 : BitVec 32 := Scalar.addi c0_i32_1019 v937
  v938.toNat
def k0_dev43 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1027 : BitVec 32 := 1#32
  let v950 : BitVec 32 := Scalar.subi v2 c1_i32_1027
  let c16_i32_1028 : BitVec 32 := 16#32
  let v951 : BitVec 32 := Scalar.addi v950 c16_i32_1028
  let c16_i32_1029 : BitVec 32 := 16#32
  let v952 : BitVec 32 := Scalar.remsi v951 c16_i32_1029
  let c1_i32_1052 : BitVec 32 := 1#32
  let v973 : BitVec 32 := Scalar.muli v952 c1_i32_1052
  let v974 : BitVec 32 := Scalar.addi c0_i32_1053 v973
  v974.toNat
def k0_dev44 (d0 : Dev nD) : Nat :=
  let c0_i32_1073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1024 : BitVec 32 := 1#32
  let v947 : BitVec 32 := Scalar.addi v2 c1_i32_1024
  let c16_i32_1025 : BitVec 32 := 16#32
  let v948 : BitVec 32 := Scalar.addi v947 c16_i32_1025
  let c16_i32_1026 : BitVec 32 := 16#32
  let v949 : BitVec 32 := Scalar.remsi v948 c16_i32_1026
  let c1_i32_1072 : BitVec 32 := 1#32
  let v984 : BitVec 32 := Scalar.muli v949 c1_i32_1072
  let v985 : BitVec 32 := Scalar.addi c0_i32_1073 v984
  v985.toNat
def k0_dev45 (d0 : Dev nD) : Nat :=
  let c0_i32_1107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1081 : BitVec 32 := 4294967295#32
  let v997 : BitVec 32 := Scalar.subi v2 c_m1_i32_1081
  let c16_i32_1082 : BitVec 32 := 16#32
  let v998 : BitVec 32 := Scalar.addi v997 c16_i32_1082
  let c16_i32_1083 : BitVec 32 := 16#32
  let v999 : BitVec 32 := Scalar.remsi v998 c16_i32_1083
  let c1_i32_1106 : BitVec 32 := 1#32
  let v1020 : BitVec 32 := Scalar.muli v999 c1_i32_1106
  let v1021 : BitVec 32 := Scalar.addi c0_i32_1107 v1020
  v1021.toNat
def k0_dev46 (d0 : Dev nD) : Nat :=
  let c0_i32_1127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1078 : BitVec 32 := 4294967295#32
  let v994 : BitVec 32 := Scalar.addi v2 c_m1_i32_1078
  let c16_i32_1079 : BitVec 32 := 16#32
  let v995 : BitVec 32 := Scalar.addi v994 c16_i32_1079
  let c16_i32_1080 : BitVec 32 := 16#32
  let v996 : BitVec 32 := Scalar.remsi v995 c16_i32_1080
  let c1_i32_1126 : BitVec 32 := 1#32
  let v1031 : BitVec 32 := Scalar.muli v996 c1_i32_1126
  let v1032 : BitVec 32 := Scalar.addi c0_i32_1127 v1031
  v1032.toNat
def k0_dev47 (d0 : Dev nD) : Nat :=
  let c0_i32_1160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1135 : BitVec 32 := 1#32
  let v1044 : BitVec 32 := Scalar.subi v2 c1_i32_1135
  let c16_i32_1136 : BitVec 32 := 16#32
  let v1045 : BitVec 32 := Scalar.addi v1044 c16_i32_1136
  let c16_i32_1137 : BitVec 32 := 16#32
  let v1046 : BitVec 32 := Scalar.remsi v1045 c16_i32_1137
  let c1_i32_1159 : BitVec 32 := 1#32
  let v1067 : BitVec 32 := Scalar.muli v1046 c1_i32_1159
  let v1068 : BitVec 32 := Scalar.addi c0_i32_1160 v1067
  v1068.toNat
def k0_dev48 (d0 : Dev nD) : Nat :=
  let c0_i32_1180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1132 : BitVec 32 := 1#32
  let v1041 : BitVec 32 := Scalar.addi v2 c1_i32_1132
  let c16_i32_1133 : BitVec 32 := 16#32
  let v1042 : BitVec 32 := Scalar.addi v1041 c16_i32_1133
  let c16_i32_1134 : BitVec 32 := 16#32
  let v1043 : BitVec 32 := Scalar.remsi v1042 c16_i32_1134
  let c1_i32_1179 : BitVec 32 := 1#32
  let v1078 : BitVec 32 := Scalar.muli v1043 c1_i32_1179
  let v1079 : BitVec 32 := Scalar.addi c0_i32_1180 v1078
  v1079.toNat
def k0_dev49 (d0 : Dev nD) : Nat :=
  let c0_i32_1213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1188 : BitVec 32 := 4294967295#32
  let v1091 : BitVec 32 := Scalar.subi v2 c_m1_i32_1188
  let c16_i32_1189 : BitVec 32 := 16#32
  let v1092 : BitVec 32 := Scalar.addi v1091 c16_i32_1189
  let c16_i32_1190 : BitVec 32 := 16#32
  let v1093 : BitVec 32 := Scalar.remsi v1092 c16_i32_1190
  let c1_i32_1212 : BitVec 32 := 1#32
  let v1114 : BitVec 32 := Scalar.muli v1093 c1_i32_1212
  let v1115 : BitVec 32 := Scalar.addi c0_i32_1213 v1114
  v1115.toNat
def k0_dev50 (d0 : Dev nD) : Nat :=
  let c0_i32_1233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1185 : BitVec 32 := 4294967295#32
  let v1088 : BitVec 32 := Scalar.addi v2 c_m1_i32_1185
  let c16_i32_1186 : BitVec 32 := 16#32
  let v1089 : BitVec 32 := Scalar.addi v1088 c16_i32_1186
  let c16_i32_1187 : BitVec 32 := 16#32
  let v1090 : BitVec 32 := Scalar.remsi v1089 c16_i32_1187
  let c1_i32_1232 : BitVec 32 := 1#32
  let v1125 : BitVec 32 := Scalar.muli v1090 c1_i32_1232
  let v1126 : BitVec 32 := Scalar.addi c0_i32_1233 v1125
  v1126.toNat
def k0_dev51 (d0 : Dev nD) : Nat :=
  let c0_i32_1267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1241 : BitVec 32 := 1#32
  let v1138 : BitVec 32 := Scalar.subi v2 c1_i32_1241
  let c16_i32_1242 : BitVec 32 := 16#32
  let v1139 : BitVec 32 := Scalar.addi v1138 c16_i32_1242
  let c16_i32_1243 : BitVec 32 := 16#32
  let v1140 : BitVec 32 := Scalar.remsi v1139 c16_i32_1243
  let c1_i32_1266 : BitVec 32 := 1#32
  let v1161 : BitVec 32 := Scalar.muli v1140 c1_i32_1266
  let v1162 : BitVec 32 := Scalar.addi c0_i32_1267 v1161
  v1162.toNat
def k0_dev52 (d0 : Dev nD) : Nat :=
  let c0_i32_1287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1238 : BitVec 32 := 1#32
  let v1135 : BitVec 32 := Scalar.addi v2 c1_i32_1238
  let c16_i32_1239 : BitVec 32 := 16#32
  let v1136 : BitVec 32 := Scalar.addi v1135 c16_i32_1239
  let c16_i32_1240 : BitVec 32 := 16#32
  let v1137 : BitVec 32 := Scalar.remsi v1136 c16_i32_1240
  let c1_i32_1286 : BitVec 32 := 1#32
  let v1172 : BitVec 32 := Scalar.muli v1137 c1_i32_1286
  let v1173 : BitVec 32 := Scalar.addi c0_i32_1287 v1172
  v1173.toNat
def k0_dev53 (d0 : Dev nD) : Nat :=
  let c0_i32_1321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1295 : BitVec 32 := 4294967295#32
  let v1185 : BitVec 32 := Scalar.subi v2 c_m1_i32_1295
  let c16_i32_1296 : BitVec 32 := 16#32
  let v1186 : BitVec 32 := Scalar.addi v1185 c16_i32_1296
  let c16_i32_1297 : BitVec 32 := 16#32
  let v1187 : BitVec 32 := Scalar.remsi v1186 c16_i32_1297
  let c1_i32_1320 : BitVec 32 := 1#32
  let v1208 : BitVec 32 := Scalar.muli v1187 c1_i32_1320
  let v1209 : BitVec 32 := Scalar.addi c0_i32_1321 v1208
  v1209.toNat
def k0_dev54 (d0 : Dev nD) : Nat :=
  let c0_i32_1341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1292 : BitVec 32 := 4294967295#32
  let v1182 : BitVec 32 := Scalar.addi v2 c_m1_i32_1292
  let c16_i32_1293 : BitVec 32 := 16#32
  let v1183 : BitVec 32 := Scalar.addi v1182 c16_i32_1293
  let c16_i32_1294 : BitVec 32 := 16#32
  let v1184 : BitVec 32 := Scalar.remsi v1183 c16_i32_1294
  let c1_i32_1340 : BitVec 32 := 1#32
  let v1219 : BitVec 32 := Scalar.muli v1184 c1_i32_1340
  let v1220 : BitVec 32 := Scalar.addi c0_i32_1341 v1219
  v1220.toNat
def k0_dev55 (d0 : Dev nD) : Nat :=
  let c0_i32_1374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1349 : BitVec 32 := 1#32
  let v1232 : BitVec 32 := Scalar.subi v2 c1_i32_1349
  let c16_i32_1350 : BitVec 32 := 16#32
  let v1233 : BitVec 32 := Scalar.addi v1232 c16_i32_1350
  let c16_i32_1351 : BitVec 32 := 16#32
  let v1234 : BitVec 32 := Scalar.remsi v1233 c16_i32_1351
  let c1_i32_1373 : BitVec 32 := 1#32
  let v1255 : BitVec 32 := Scalar.muli v1234 c1_i32_1373
  let v1256 : BitVec 32 := Scalar.addi c0_i32_1374 v1255
  v1256.toNat
def k0_dev56 (d0 : Dev nD) : Nat :=
  let c0_i32_1394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1346 : BitVec 32 := 1#32
  let v1229 : BitVec 32 := Scalar.addi v2 c1_i32_1346
  let c16_i32_1347 : BitVec 32 := 16#32
  let v1230 : BitVec 32 := Scalar.addi v1229 c16_i32_1347
  let c16_i32_1348 : BitVec 32 := 16#32
  let v1231 : BitVec 32 := Scalar.remsi v1230 c16_i32_1348
  let c1_i32_1393 : BitVec 32 := 1#32
  let v1266 : BitVec 32 := Scalar.muli v1231 c1_i32_1393
  let v1267 : BitVec 32 := Scalar.addi c0_i32_1394 v1266
  v1267.toNat
def k0_dev57 (d0 : Dev nD) : Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1402 : BitVec 32 := 4294967295#32
  let v1279 : BitVec 32 := Scalar.subi v2 c_m1_i32_1402
  let c16_i32_1403 : BitVec 32 := 16#32
  let v1280 : BitVec 32 := Scalar.addi v1279 c16_i32_1403
  let c16_i32_1404 : BitVec 32 := 16#32
  let v1281 : BitVec 32 := Scalar.remsi v1280 c16_i32_1404
  let c1_i32_1426 : BitVec 32 := 1#32
  let v1302 : BitVec 32 := Scalar.muli v1281 c1_i32_1426
  let v1303 : BitVec 32 := Scalar.addi c0_i32_1427 v1302
  v1303.toNat
def k0_dev58 (d0 : Dev nD) : Nat :=
  let c0_i32_1447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1399 : BitVec 32 := 4294967295#32
  let v1276 : BitVec 32 := Scalar.addi v2 c_m1_i32_1399
  let c16_i32_1400 : BitVec 32 := 16#32
  let v1277 : BitVec 32 := Scalar.addi v1276 c16_i32_1400
  let c16_i32_1401 : BitVec 32 := 16#32
  let v1278 : BitVec 32 := Scalar.remsi v1277 c16_i32_1401
  let c1_i32_1446 : BitVec 32 := 1#32
  let v1313 : BitVec 32 := Scalar.muli v1278 c1_i32_1446
  let v1314 : BitVec 32 := Scalar.addi c0_i32_1447 v1313
  v1314.toNat
def k0_dev59 (d0 : Dev nD) : Nat :=
  let c0_i32_1481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1455 : BitVec 32 := 1#32
  let v1326 : BitVec 32 := Scalar.subi v2 c1_i32_1455
  let c16_i32_1456 : BitVec 32 := 16#32
  let v1327 : BitVec 32 := Scalar.addi v1326 c16_i32_1456
  let c16_i32_1457 : BitVec 32 := 16#32
  let v1328 : BitVec 32 := Scalar.remsi v1327 c16_i32_1457
  let c1_i32_1480 : BitVec 32 := 1#32
  let v1349 : BitVec 32 := Scalar.muli v1328 c1_i32_1480
  let v1350 : BitVec 32 := Scalar.addi c0_i32_1481 v1349
  v1350.toNat
def k0_dev60 (d0 : Dev nD) : Nat :=
  let c0_i32_1501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1452 : BitVec 32 := 1#32
  let v1323 : BitVec 32 := Scalar.addi v2 c1_i32_1452
  let c16_i32_1453 : BitVec 32 := 16#32
  let v1324 : BitVec 32 := Scalar.addi v1323 c16_i32_1453
  let c16_i32_1454 : BitVec 32 := 16#32
  let v1325 : BitVec 32 := Scalar.remsi v1324 c16_i32_1454
  let c1_i32_1500 : BitVec 32 := 1#32
  let v1360 : BitVec 32 := Scalar.muli v1325 c1_i32_1500
  let v1361 : BitVec 32 := Scalar.addi c0_i32_1501 v1360
  v1361.toNat
def k0_dev61 (d0 : Dev nD) : Nat :=
  let c0_i32_1535 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1509 : BitVec 32 := 4294967295#32
  let v1373 : BitVec 32 := Scalar.subi v2 c_m1_i32_1509
  let c16_i32_1510 : BitVec 32 := 16#32
  let v1374 : BitVec 32 := Scalar.addi v1373 c16_i32_1510
  let c16_i32_1511 : BitVec 32 := 16#32
  let v1375 : BitVec 32 := Scalar.remsi v1374 c16_i32_1511
  let c1_i32_1534 : BitVec 32 := 1#32
  let v1396 : BitVec 32 := Scalar.muli v1375 c1_i32_1534
  let v1397 : BitVec 32 := Scalar.addi c0_i32_1535 v1396
  v1397.toNat
def k0_dev62 (d0 : Dev nD) : Nat :=
  let c0_i32_1555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1506 : BitVec 32 := 4294967295#32
  let v1370 : BitVec 32 := Scalar.addi v2 c_m1_i32_1506
  let c16_i32_1507 : BitVec 32 := 16#32
  let v1371 : BitVec 32 := Scalar.addi v1370 c16_i32_1507
  let c16_i32_1508 : BitVec 32 := 16#32
  let v1372 : BitVec 32 := Scalar.remsi v1371 c16_i32_1508
  let c1_i32_1554 : BitVec 32 := 1#32
  let v1407 : BitVec 32 := Scalar.muli v1372 c1_i32_1554
  let v1408 : BitVec 32 := Scalar.addi c0_i32_1555 v1407
  v1408.toNat
def k0_dev63 (d0 : Dev nD) : Nat :=
  let c0_i32_1588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1563 : BitVec 32 := 1#32
  let v1420 : BitVec 32 := Scalar.subi v2 c1_i32_1563
  let c16_i32_1564 : BitVec 32 := 16#32
  let v1421 : BitVec 32 := Scalar.addi v1420 c16_i32_1564
  let c16_i32_1565 : BitVec 32 := 16#32
  let v1422 : BitVec 32 := Scalar.remsi v1421 c16_i32_1565
  let c1_i32_1587 : BitVec 32 := 1#32
  let v1443 : BitVec 32 := Scalar.muli v1422 c1_i32_1587
  let v1444 : BitVec 32 := Scalar.addi c0_i32_1588 v1443
  v1444.toNat
def k0_dev64 (d0 : Dev nD) : Nat :=
  let c0_i32_1608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1560 : BitVec 32 := 1#32
  let v1417 : BitVec 32 := Scalar.addi v2 c1_i32_1560
  let c16_i32_1561 : BitVec 32 := 16#32
  let v1418 : BitVec 32 := Scalar.addi v1417 c16_i32_1561
  let c16_i32_1562 : BitVec 32 := 16#32
  let v1419 : BitVec 32 := Scalar.remsi v1418 c16_i32_1562
  let c1_i32_1607 : BitVec 32 := 1#32
  let v1454 : BitVec 32 := Scalar.muli v1419 c1_i32_1607
  let v1455 : BitVec 32 := Scalar.addi c0_i32_1608 v1454
  v1455.toNat
def k0_dev65 (d0 : Dev nD) : Nat :=
  let c0_i32_1641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1616 : BitVec 32 := 4294967295#32
  let v1467 : BitVec 32 := Scalar.subi v2 c_m1_i32_1616
  let c16_i32_1617 : BitVec 32 := 16#32
  let v1468 : BitVec 32 := Scalar.addi v1467 c16_i32_1617
  let c16_i32_1618 : BitVec 32 := 16#32
  let v1469 : BitVec 32 := Scalar.remsi v1468 c16_i32_1618
  let c1_i32_1640 : BitVec 32 := 1#32
  let v1490 : BitVec 32 := Scalar.muli v1469 c1_i32_1640
  let v1491 : BitVec 32 := Scalar.addi c0_i32_1641 v1490
  v1491.toNat
def k0_dev66 (d0 : Dev nD) : Nat :=
  let c0_i32_1661 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1613 : BitVec 32 := 4294967295#32
  let v1464 : BitVec 32 := Scalar.addi v2 c_m1_i32_1613
  let c16_i32_1614 : BitVec 32 := 16#32
  let v1465 : BitVec 32 := Scalar.addi v1464 c16_i32_1614
  let c16_i32_1615 : BitVec 32 := 16#32
  let v1466 : BitVec 32 := Scalar.remsi v1465 c16_i32_1615
  let c1_i32_1660 : BitVec 32 := 1#32
  let v1501 : BitVec 32 := Scalar.muli v1466 c1_i32_1660
  let v1502 : BitVec 32 := Scalar.addi c0_i32_1661 v1501
  v1502.toNat
def k0_dev67 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1669 : BitVec 32 := 1#32
  let v1514 : BitVec 32 := Scalar.subi v2 c1_i32_1669
  let c16_i32_1670 : BitVec 32 := 16#32
  let v1515 : BitVec 32 := Scalar.addi v1514 c16_i32_1670
  let c16_i32_1671 : BitVec 32 := 16#32
  let v1516 : BitVec 32 := Scalar.remsi v1515 c16_i32_1671
  let c1_i32_1694 : BitVec 32 := 1#32
  let v1537 : BitVec 32 := Scalar.muli v1516 c1_i32_1694
  let v1538 : BitVec 32 := Scalar.addi c0_i32_1695 v1537
  v1538.toNat
def k0_dev68 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1666 : BitVec 32 := 1#32
  let v1511 : BitVec 32 := Scalar.addi v2 c1_i32_1666
  let c16_i32_1667 : BitVec 32 := 16#32
  let v1512 : BitVec 32 := Scalar.addi v1511 c16_i32_1667
  let c16_i32_1668 : BitVec 32 := 16#32
  let v1513 : BitVec 32 := Scalar.remsi v1512 c16_i32_1668
  let c1_i32_1714 : BitVec 32 := 1#32
  let v1548 : BitVec 32 := Scalar.muli v1513 c1_i32_1714
  let v1549 : BitVec 32 := Scalar.addi c0_i32_1715 v1548
  v1549.toNat
def k0_dev69 (d0 : Dev nD) : Nat :=
  let c0_i32_1749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1723 : BitVec 32 := 4294967295#32
  let v1561 : BitVec 32 := Scalar.subi v2 c_m1_i32_1723
  let c16_i32_1724 : BitVec 32 := 16#32
  let v1562 : BitVec 32 := Scalar.addi v1561 c16_i32_1724
  let c16_i32_1725 : BitVec 32 := 16#32
  let v1563 : BitVec 32 := Scalar.remsi v1562 c16_i32_1725
  let c1_i32_1748 : BitVec 32 := 1#32
  let v1584 : BitVec 32 := Scalar.muli v1563 c1_i32_1748
  let v1585 : BitVec 32 := Scalar.addi c0_i32_1749 v1584
  v1585.toNat
def k0_dev70 (d0 : Dev nD) : Nat :=
  let c0_i32_1769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1720 : BitVec 32 := 4294967295#32
  let v1558 : BitVec 32 := Scalar.addi v2 c_m1_i32_1720
  let c16_i32_1721 : BitVec 32 := 16#32
  let v1559 : BitVec 32 := Scalar.addi v1558 c16_i32_1721
  let c16_i32_1722 : BitVec 32 := 16#32
  let v1560 : BitVec 32 := Scalar.remsi v1559 c16_i32_1722
  let c1_i32_1768 : BitVec 32 := 1#32
  let v1595 : BitVec 32 := Scalar.muli v1560 c1_i32_1768
  let v1596 : BitVec 32 := Scalar.addi c0_i32_1769 v1595
  v1596.toNat
def k0_dev71 (d0 : Dev nD) : Nat :=
  let c0_i32_1802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1777 : BitVec 32 := 1#32
  let v1608 : BitVec 32 := Scalar.subi v2 c1_i32_1777
  let c16_i32_1778 : BitVec 32 := 16#32
  let v1609 : BitVec 32 := Scalar.addi v1608 c16_i32_1778
  let c16_i32_1779 : BitVec 32 := 16#32
  let v1610 : BitVec 32 := Scalar.remsi v1609 c16_i32_1779
  let c1_i32_1801 : BitVec 32 := 1#32
  let v1631 : BitVec 32 := Scalar.muli v1610 c1_i32_1801
  let v1632 : BitVec 32 := Scalar.addi c0_i32_1802 v1631
  v1632.toNat
def k0_dev72 (d0 : Dev nD) : Nat :=
  let c0_i32_1822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1774 : BitVec 32 := 1#32
  let v1605 : BitVec 32 := Scalar.addi v2 c1_i32_1774
  let c16_i32_1775 : BitVec 32 := 16#32
  let v1606 : BitVec 32 := Scalar.addi v1605 c16_i32_1775
  let c16_i32_1776 : BitVec 32 := 16#32
  let v1607 : BitVec 32 := Scalar.remsi v1606 c16_i32_1776
  let c1_i32_1821 : BitVec 32 := 1#32
  let v1642 : BitVec 32 := Scalar.muli v1607 c1_i32_1821
  let v1643 : BitVec 32 := Scalar.addi c0_i32_1822 v1642
  v1643.toNat
def k0_dev73 (d0 : Dev nD) : Nat :=
  let c0_i32_1855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1830 : BitVec 32 := 4294967295#32
  let v1655 : BitVec 32 := Scalar.subi v2 c_m1_i32_1830
  let c16_i32_1831 : BitVec 32 := 16#32
  let v1656 : BitVec 32 := Scalar.addi v1655 c16_i32_1831
  let c16_i32_1832 : BitVec 32 := 16#32
  let v1657 : BitVec 32 := Scalar.remsi v1656 c16_i32_1832
  let c1_i32_1854 : BitVec 32 := 1#32
  let v1678 : BitVec 32 := Scalar.muli v1657 c1_i32_1854
  let v1679 : BitVec 32 := Scalar.addi c0_i32_1855 v1678
  v1679.toNat
def k0_dev74 (d0 : Dev nD) : Nat :=
  let c0_i32_1875 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1827 : BitVec 32 := 4294967295#32
  let v1652 : BitVec 32 := Scalar.addi v2 c_m1_i32_1827
  let c16_i32_1828 : BitVec 32 := 16#32
  let v1653 : BitVec 32 := Scalar.addi v1652 c16_i32_1828
  let c16_i32_1829 : BitVec 32 := 16#32
  let v1654 : BitVec 32 := Scalar.remsi v1653 c16_i32_1829
  let c1_i32_1874 : BitVec 32 := 1#32
  let v1689 : BitVec 32 := Scalar.muli v1654 c1_i32_1874
  let v1690 : BitVec 32 := Scalar.addi c0_i32_1875 v1689
  v1690.toNat
def k0_dev75 (d0 : Dev nD) : Nat :=
  let c0_i32_1909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1883 : BitVec 32 := 1#32
  let v1702 : BitVec 32 := Scalar.subi v2 c1_i32_1883
  let c16_i32_1884 : BitVec 32 := 16#32
  let v1703 : BitVec 32 := Scalar.addi v1702 c16_i32_1884
  let c16_i32_1885 : BitVec 32 := 16#32
  let v1704 : BitVec 32 := Scalar.remsi v1703 c16_i32_1885
  let c1_i32_1908 : BitVec 32 := 1#32
  let v1725 : BitVec 32 := Scalar.muli v1704 c1_i32_1908
  let v1726 : BitVec 32 := Scalar.addi c0_i32_1909 v1725
  v1726.toNat
def k0_dev76 (d0 : Dev nD) : Nat :=
  let c0_i32_1929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1880 : BitVec 32 := 1#32
  let v1699 : BitVec 32 := Scalar.addi v2 c1_i32_1880
  let c16_i32_1881 : BitVec 32 := 16#32
  let v1700 : BitVec 32 := Scalar.addi v1699 c16_i32_1881
  let c16_i32_1882 : BitVec 32 := 16#32
  let v1701 : BitVec 32 := Scalar.remsi v1700 c16_i32_1882
  let c1_i32_1928 : BitVec 32 := 1#32
  let v1736 : BitVec 32 := Scalar.muli v1701 c1_i32_1928
  let v1737 : BitVec 32 := Scalar.addi c0_i32_1929 v1736
  v1737.toNat
def k0_dev77 (d0 : Dev nD) : Nat :=
  let c0_i32_1963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1937 : BitVec 32 := 4294967295#32
  let v1749 : BitVec 32 := Scalar.subi v2 c_m1_i32_1937
  let c16_i32_1938 : BitVec 32 := 16#32
  let v1750 : BitVec 32 := Scalar.addi v1749 c16_i32_1938
  let c16_i32_1939 : BitVec 32 := 16#32
  let v1751 : BitVec 32 := Scalar.remsi v1750 c16_i32_1939
  let c1_i32_1962 : BitVec 32 := 1#32
  let v1772 : BitVec 32 := Scalar.muli v1751 c1_i32_1962
  let v1773 : BitVec 32 := Scalar.addi c0_i32_1963 v1772
  v1773.toNat
def k0_dev78 (d0 : Dev nD) : Nat :=
  let c0_i32_1983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_1934 : BitVec 32 := 4294967295#32
  let v1746 : BitVec 32 := Scalar.addi v2 c_m1_i32_1934
  let c16_i32_1935 : BitVec 32 := 16#32
  let v1747 : BitVec 32 := Scalar.addi v1746 c16_i32_1935
  let c16_i32_1936 : BitVec 32 := 16#32
  let v1748 : BitVec 32 := Scalar.remsi v1747 c16_i32_1936
  let c1_i32_1982 : BitVec 32 := 1#32
  let v1783 : BitVec 32 := Scalar.muli v1748 c1_i32_1982
  let v1784 : BitVec 32 := Scalar.addi c0_i32_1983 v1783
  v1784.toNat
def k0_dev79 (d0 : Dev nD) : Nat :=
  let c0_i32_2016 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1991 : BitVec 32 := 1#32
  let v1796 : BitVec 32 := Scalar.subi v2 c1_i32_1991
  let c16_i32_1992 : BitVec 32 := 16#32
  let v1797 : BitVec 32 := Scalar.addi v1796 c16_i32_1992
  let c16_i32_1993 : BitVec 32 := 16#32
  let v1798 : BitVec 32 := Scalar.remsi v1797 c16_i32_1993
  let c1_i32_2015 : BitVec 32 := 1#32
  let v1819 : BitVec 32 := Scalar.muli v1798 c1_i32_2015
  let v1820 : BitVec 32 := Scalar.addi c0_i32_2016 v1819
  v1820.toNat
def k0_dev80 (d0 : Dev nD) : Nat :=
  let c0_i32_2036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1988 : BitVec 32 := 1#32
  let v1793 : BitVec 32 := Scalar.addi v2 c1_i32_1988
  let c16_i32_1989 : BitVec 32 := 16#32
  let v1794 : BitVec 32 := Scalar.addi v1793 c16_i32_1989
  let c16_i32_1990 : BitVec 32 := 16#32
  let v1795 : BitVec 32 := Scalar.remsi v1794 c16_i32_1990
  let c1_i32_2035 : BitVec 32 := 1#32
  let v1830 : BitVec 32 := Scalar.muli v1795 c1_i32_2035
  let v1831 : BitVec 32 := Scalar.addi c0_i32_2036 v1830
  v1831.toNat
def k0_dev81 (d0 : Dev nD) : Nat :=
  let c0_i32_2069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2044 : BitVec 32 := 4294967295#32
  let v1843 : BitVec 32 := Scalar.subi v2 c_m1_i32_2044
  let c16_i32_2045 : BitVec 32 := 16#32
  let v1844 : BitVec 32 := Scalar.addi v1843 c16_i32_2045
  let c16_i32_2046 : BitVec 32 := 16#32
  let v1845 : BitVec 32 := Scalar.remsi v1844 c16_i32_2046
  let c1_i32_2068 : BitVec 32 := 1#32
  let v1866 : BitVec 32 := Scalar.muli v1845 c1_i32_2068
  let v1867 : BitVec 32 := Scalar.addi c0_i32_2069 v1866
  v1867.toNat
def k0_dev82 (d0 : Dev nD) : Nat :=
  let c0_i32_2089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2041 : BitVec 32 := 4294967295#32
  let v1840 : BitVec 32 := Scalar.addi v2 c_m1_i32_2041
  let c16_i32_2042 : BitVec 32 := 16#32
  let v1841 : BitVec 32 := Scalar.addi v1840 c16_i32_2042
  let c16_i32_2043 : BitVec 32 := 16#32
  let v1842 : BitVec 32 := Scalar.remsi v1841 c16_i32_2043
  let c1_i32_2088 : BitVec 32 := 1#32
  let v1877 : BitVec 32 := Scalar.muli v1842 c1_i32_2088
  let v1878 : BitVec 32 := Scalar.addi c0_i32_2089 v1877
  v1878.toNat
def k0_dev83 (d0 : Dev nD) : Nat :=
  let c0_i32_2123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2097 : BitVec 32 := 1#32
  let v1890 : BitVec 32 := Scalar.subi v2 c1_i32_2097
  let c16_i32_2098 : BitVec 32 := 16#32
  let v1891 : BitVec 32 := Scalar.addi v1890 c16_i32_2098
  let c16_i32_2099 : BitVec 32 := 16#32
  let v1892 : BitVec 32 := Scalar.remsi v1891 c16_i32_2099
  let c1_i32_2122 : BitVec 32 := 1#32
  let v1913 : BitVec 32 := Scalar.muli v1892 c1_i32_2122
  let v1914 : BitVec 32 := Scalar.addi c0_i32_2123 v1913
  v1914.toNat
def k0_dev84 (d0 : Dev nD) : Nat :=
  let c0_i32_2143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2094 : BitVec 32 := 1#32
  let v1887 : BitVec 32 := Scalar.addi v2 c1_i32_2094
  let c16_i32_2095 : BitVec 32 := 16#32
  let v1888 : BitVec 32 := Scalar.addi v1887 c16_i32_2095
  let c16_i32_2096 : BitVec 32 := 16#32
  let v1889 : BitVec 32 := Scalar.remsi v1888 c16_i32_2096
  let c1_i32_2142 : BitVec 32 := 1#32
  let v1924 : BitVec 32 := Scalar.muli v1889 c1_i32_2142
  let v1925 : BitVec 32 := Scalar.addi c0_i32_2143 v1924
  v1925.toNat
def k0_dev85 (d0 : Dev nD) : Nat :=
  let c0_i32_2177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2151 : BitVec 32 := 4294967295#32
  let v1937 : BitVec 32 := Scalar.subi v2 c_m1_i32_2151
  let c16_i32_2152 : BitVec 32 := 16#32
  let v1938 : BitVec 32 := Scalar.addi v1937 c16_i32_2152
  let c16_i32_2153 : BitVec 32 := 16#32
  let v1939 : BitVec 32 := Scalar.remsi v1938 c16_i32_2153
  let c1_i32_2176 : BitVec 32 := 1#32
  let v1960 : BitVec 32 := Scalar.muli v1939 c1_i32_2176
  let v1961 : BitVec 32 := Scalar.addi c0_i32_2177 v1960
  v1961.toNat
def k0_dev86 (d0 : Dev nD) : Nat :=
  let c0_i32_2197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2148 : BitVec 32 := 4294967295#32
  let v1934 : BitVec 32 := Scalar.addi v2 c_m1_i32_2148
  let c16_i32_2149 : BitVec 32 := 16#32
  let v1935 : BitVec 32 := Scalar.addi v1934 c16_i32_2149
  let c16_i32_2150 : BitVec 32 := 16#32
  let v1936 : BitVec 32 := Scalar.remsi v1935 c16_i32_2150
  let c1_i32_2196 : BitVec 32 := 1#32
  let v1971 : BitVec 32 := Scalar.muli v1936 c1_i32_2196
  let v1972 : BitVec 32 := Scalar.addi c0_i32_2197 v1971
  v1972.toNat
def k0_dev87 (d0 : Dev nD) : Nat :=
  let c0_i32_2230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2205 : BitVec 32 := 1#32
  let v1984 : BitVec 32 := Scalar.subi v2 c1_i32_2205
  let c16_i32_2206 : BitVec 32 := 16#32
  let v1985 : BitVec 32 := Scalar.addi v1984 c16_i32_2206
  let c16_i32_2207 : BitVec 32 := 16#32
  let v1986 : BitVec 32 := Scalar.remsi v1985 c16_i32_2207
  let c1_i32_2229 : BitVec 32 := 1#32
  let v2007 : BitVec 32 := Scalar.muli v1986 c1_i32_2229
  let v2008 : BitVec 32 := Scalar.addi c0_i32_2230 v2007
  v2008.toNat
def k0_dev88 (d0 : Dev nD) : Nat :=
  let c0_i32_2250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2202 : BitVec 32 := 1#32
  let v1981 : BitVec 32 := Scalar.addi v2 c1_i32_2202
  let c16_i32_2203 : BitVec 32 := 16#32
  let v1982 : BitVec 32 := Scalar.addi v1981 c16_i32_2203
  let c16_i32_2204 : BitVec 32 := 16#32
  let v1983 : BitVec 32 := Scalar.remsi v1982 c16_i32_2204
  let c1_i32_2249 : BitVec 32 := 1#32
  let v2018 : BitVec 32 := Scalar.muli v1983 c1_i32_2249
  let v2019 : BitVec 32 := Scalar.addi c0_i32_2250 v2018
  v2019.toNat
def k0_dev89 (d0 : Dev nD) : Nat :=
  let c0_i32_2283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2258 : BitVec 32 := 4294967295#32
  let v2031 : BitVec 32 := Scalar.subi v2 c_m1_i32_2258
  let c16_i32_2259 : BitVec 32 := 16#32
  let v2032 : BitVec 32 := Scalar.addi v2031 c16_i32_2259
  let c16_i32_2260 : BitVec 32 := 16#32
  let v2033 : BitVec 32 := Scalar.remsi v2032 c16_i32_2260
  let c1_i32_2282 : BitVec 32 := 1#32
  let v2054 : BitVec 32 := Scalar.muli v2033 c1_i32_2282
  let v2055 : BitVec 32 := Scalar.addi c0_i32_2283 v2054
  v2055.toNat
def k0_dev90 (d0 : Dev nD) : Nat :=
  let c0_i32_2303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2255 : BitVec 32 := 4294967295#32
  let v2028 : BitVec 32 := Scalar.addi v2 c_m1_i32_2255
  let c16_i32_2256 : BitVec 32 := 16#32
  let v2029 : BitVec 32 := Scalar.addi v2028 c16_i32_2256
  let c16_i32_2257 : BitVec 32 := 16#32
  let v2030 : BitVec 32 := Scalar.remsi v2029 c16_i32_2257
  let c1_i32_2302 : BitVec 32 := 1#32
  let v2065 : BitVec 32 := Scalar.muli v2030 c1_i32_2302
  let v2066 : BitVec 32 := Scalar.addi c0_i32_2303 v2065
  v2066.toNat
def k0_dev91 (d0 : Dev nD) : Nat :=
  let c0_i32_2337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2311 : BitVec 32 := 1#32
  let v2078 : BitVec 32 := Scalar.subi v2 c1_i32_2311
  let c16_i32_2312 : BitVec 32 := 16#32
  let v2079 : BitVec 32 := Scalar.addi v2078 c16_i32_2312
  let c16_i32_2313 : BitVec 32 := 16#32
  let v2080 : BitVec 32 := Scalar.remsi v2079 c16_i32_2313
  let c1_i32_2336 : BitVec 32 := 1#32
  let v2101 : BitVec 32 := Scalar.muli v2080 c1_i32_2336
  let v2102 : BitVec 32 := Scalar.addi c0_i32_2337 v2101
  v2102.toNat
def k0_dev92 (d0 : Dev nD) : Nat :=
  let c0_i32_2357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2308 : BitVec 32 := 1#32
  let v2075 : BitVec 32 := Scalar.addi v2 c1_i32_2308
  let c16_i32_2309 : BitVec 32 := 16#32
  let v2076 : BitVec 32 := Scalar.addi v2075 c16_i32_2309
  let c16_i32_2310 : BitVec 32 := 16#32
  let v2077 : BitVec 32 := Scalar.remsi v2076 c16_i32_2310
  let c1_i32_2356 : BitVec 32 := 1#32
  let v2112 : BitVec 32 := Scalar.muli v2077 c1_i32_2356
  let v2113 : BitVec 32 := Scalar.addi c0_i32_2357 v2112
  v2113.toNat
def k0_dev93 (d0 : Dev nD) : Nat :=
  let c0_i32_2391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2365 : BitVec 32 := 4294967295#32
  let v2125 : BitVec 32 := Scalar.subi v2 c_m1_i32_2365
  let c16_i32_2366 : BitVec 32 := 16#32
  let v2126 : BitVec 32 := Scalar.addi v2125 c16_i32_2366
  let c16_i32_2367 : BitVec 32 := 16#32
  let v2127 : BitVec 32 := Scalar.remsi v2126 c16_i32_2367
  let c1_i32_2390 : BitVec 32 := 1#32
  let v2148 : BitVec 32 := Scalar.muli v2127 c1_i32_2390
  let v2149 : BitVec 32 := Scalar.addi c0_i32_2391 v2148
  v2149.toNat
def k0_dev94 (d0 : Dev nD) : Nat :=
  let c0_i32_2411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2362 : BitVec 32 := 4294967295#32
  let v2122 : BitVec 32 := Scalar.addi v2 c_m1_i32_2362
  let c16_i32_2363 : BitVec 32 := 16#32
  let v2123 : BitVec 32 := Scalar.addi v2122 c16_i32_2363
  let c16_i32_2364 : BitVec 32 := 16#32
  let v2124 : BitVec 32 := Scalar.remsi v2123 c16_i32_2364
  let c1_i32_2410 : BitVec 32 := 1#32
  let v2159 : BitVec 32 := Scalar.muli v2124 c1_i32_2410
  let v2160 : BitVec 32 := Scalar.addi c0_i32_2411 v2159
  v2160.toNat
def k0_dev95 (d0 : Dev nD) : Nat :=
  let c0_i32_2444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2419 : BitVec 32 := 1#32
  let v2172 : BitVec 32 := Scalar.subi v2 c1_i32_2419
  let c16_i32_2420 : BitVec 32 := 16#32
  let v2173 : BitVec 32 := Scalar.addi v2172 c16_i32_2420
  let c16_i32_2421 : BitVec 32 := 16#32
  let v2174 : BitVec 32 := Scalar.remsi v2173 c16_i32_2421
  let c1_i32_2443 : BitVec 32 := 1#32
  let v2195 : BitVec 32 := Scalar.muli v2174 c1_i32_2443
  let v2196 : BitVec 32 := Scalar.addi c0_i32_2444 v2195
  v2196.toNat
def k0_dev96 (d0 : Dev nD) : Nat :=
  let c0_i32_2464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2416 : BitVec 32 := 1#32
  let v2169 : BitVec 32 := Scalar.addi v2 c1_i32_2416
  let c16_i32_2417 : BitVec 32 := 16#32
  let v2170 : BitVec 32 := Scalar.addi v2169 c16_i32_2417
  let c16_i32_2418 : BitVec 32 := 16#32
  let v2171 : BitVec 32 := Scalar.remsi v2170 c16_i32_2418
  let c1_i32_2463 : BitVec 32 := 1#32
  let v2206 : BitVec 32 := Scalar.muli v2171 c1_i32_2463
  let v2207 : BitVec 32 := Scalar.addi c0_i32_2464 v2206
  v2207.toNat
def k0_dev97 (d0 : Dev nD) : Nat :=
  let c0_i32_2497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2472 : BitVec 32 := 4294967295#32
  let v2219 : BitVec 32 := Scalar.subi v2 c_m1_i32_2472
  let c16_i32_2473 : BitVec 32 := 16#32
  let v2220 : BitVec 32 := Scalar.addi v2219 c16_i32_2473
  let c16_i32_2474 : BitVec 32 := 16#32
  let v2221 : BitVec 32 := Scalar.remsi v2220 c16_i32_2474
  let c1_i32_2496 : BitVec 32 := 1#32
  let v2242 : BitVec 32 := Scalar.muli v2221 c1_i32_2496
  let v2243 : BitVec 32 := Scalar.addi c0_i32_2497 v2242
  v2243.toNat
def k0_dev98 (d0 : Dev nD) : Nat :=
  let c0_i32_2517 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2469 : BitVec 32 := 4294967295#32
  let v2216 : BitVec 32 := Scalar.addi v2 c_m1_i32_2469
  let c16_i32_2470 : BitVec 32 := 16#32
  let v2217 : BitVec 32 := Scalar.addi v2216 c16_i32_2470
  let c16_i32_2471 : BitVec 32 := 16#32
  let v2218 : BitVec 32 := Scalar.remsi v2217 c16_i32_2471
  let c1_i32_2516 : BitVec 32 := 1#32
  let v2253 : BitVec 32 := Scalar.muli v2218 c1_i32_2516
  let v2254 : BitVec 32 := Scalar.addi c0_i32_2517 v2253
  v2254.toNat
def k0_dev99 (d0 : Dev nD) : Nat :=
  let c0_i32_2551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2525 : BitVec 32 := 1#32
  let v2266 : BitVec 32 := Scalar.subi v2 c1_i32_2525
  let c16_i32_2526 : BitVec 32 := 16#32
  let v2267 : BitVec 32 := Scalar.addi v2266 c16_i32_2526
  let c16_i32_2527 : BitVec 32 := 16#32
  let v2268 : BitVec 32 := Scalar.remsi v2267 c16_i32_2527
  let c1_i32_2550 : BitVec 32 := 1#32
  let v2289 : BitVec 32 := Scalar.muli v2268 c1_i32_2550
  let v2290 : BitVec 32 := Scalar.addi c0_i32_2551 v2289
  v2290.toNat
def k0_dev100 (d0 : Dev nD) : Nat :=
  let c0_i32_2571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2522 : BitVec 32 := 1#32
  let v2263 : BitVec 32 := Scalar.addi v2 c1_i32_2522
  let c16_i32_2523 : BitVec 32 := 16#32
  let v2264 : BitVec 32 := Scalar.addi v2263 c16_i32_2523
  let c16_i32_2524 : BitVec 32 := 16#32
  let v2265 : BitVec 32 := Scalar.remsi v2264 c16_i32_2524
  let c1_i32_2570 : BitVec 32 := 1#32
  let v2300 : BitVec 32 := Scalar.muli v2265 c1_i32_2570
  let v2301 : BitVec 32 := Scalar.addi c0_i32_2571 v2300
  v2301.toNat
def k0_dev101 (d0 : Dev nD) : Nat :=
  let c0_i32_2605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2579 : BitVec 32 := 4294967295#32
  let v2313 : BitVec 32 := Scalar.subi v2 c_m1_i32_2579
  let c16_i32_2580 : BitVec 32 := 16#32
  let v2314 : BitVec 32 := Scalar.addi v2313 c16_i32_2580
  let c16_i32_2581 : BitVec 32 := 16#32
  let v2315 : BitVec 32 := Scalar.remsi v2314 c16_i32_2581
  let c1_i32_2604 : BitVec 32 := 1#32
  let v2336 : BitVec 32 := Scalar.muli v2315 c1_i32_2604
  let v2337 : BitVec 32 := Scalar.addi c0_i32_2605 v2336
  v2337.toNat
def k0_dev102 (d0 : Dev nD) : Nat :=
  let c0_i32_2625 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2576 : BitVec 32 := 4294967295#32
  let v2310 : BitVec 32 := Scalar.addi v2 c_m1_i32_2576
  let c16_i32_2577 : BitVec 32 := 16#32
  let v2311 : BitVec 32 := Scalar.addi v2310 c16_i32_2577
  let c16_i32_2578 : BitVec 32 := 16#32
  let v2312 : BitVec 32 := Scalar.remsi v2311 c16_i32_2578
  let c1_i32_2624 : BitVec 32 := 1#32
  let v2347 : BitVec 32 := Scalar.muli v2312 c1_i32_2624
  let v2348 : BitVec 32 := Scalar.addi c0_i32_2625 v2347
  v2348.toNat
def k0_dev103 (d0 : Dev nD) : Nat :=
  let c0_i32_2658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2633 : BitVec 32 := 1#32
  let v2360 : BitVec 32 := Scalar.subi v2 c1_i32_2633
  let c16_i32_2634 : BitVec 32 := 16#32
  let v2361 : BitVec 32 := Scalar.addi v2360 c16_i32_2634
  let c16_i32_2635 : BitVec 32 := 16#32
  let v2362 : BitVec 32 := Scalar.remsi v2361 c16_i32_2635
  let c1_i32_2657 : BitVec 32 := 1#32
  let v2383 : BitVec 32 := Scalar.muli v2362 c1_i32_2657
  let v2384 : BitVec 32 := Scalar.addi c0_i32_2658 v2383
  v2384.toNat
def k0_dev104 (d0 : Dev nD) : Nat :=
  let c0_i32_2678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2630 : BitVec 32 := 1#32
  let v2357 : BitVec 32 := Scalar.addi v2 c1_i32_2630
  let c16_i32_2631 : BitVec 32 := 16#32
  let v2358 : BitVec 32 := Scalar.addi v2357 c16_i32_2631
  let c16_i32_2632 : BitVec 32 := 16#32
  let v2359 : BitVec 32 := Scalar.remsi v2358 c16_i32_2632
  let c1_i32_2677 : BitVec 32 := 1#32
  let v2394 : BitVec 32 := Scalar.muli v2359 c1_i32_2677
  let v2395 : BitVec 32 := Scalar.addi c0_i32_2678 v2394
  v2395.toNat
def k0_dev105 (d0 : Dev nD) : Nat :=
  let c0_i32_2711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2686 : BitVec 32 := 4294967295#32
  let v2407 : BitVec 32 := Scalar.subi v2 c_m1_i32_2686
  let c16_i32_2687 : BitVec 32 := 16#32
  let v2408 : BitVec 32 := Scalar.addi v2407 c16_i32_2687
  let c16_i32_2688 : BitVec 32 := 16#32
  let v2409 : BitVec 32 := Scalar.remsi v2408 c16_i32_2688
  let c1_i32_2710 : BitVec 32 := 1#32
  let v2430 : BitVec 32 := Scalar.muli v2409 c1_i32_2710
  let v2431 : BitVec 32 := Scalar.addi c0_i32_2711 v2430
  v2431.toNat
def k0_dev106 (d0 : Dev nD) : Nat :=
  let c0_i32_2731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2683 : BitVec 32 := 4294967295#32
  let v2404 : BitVec 32 := Scalar.addi v2 c_m1_i32_2683
  let c16_i32_2684 : BitVec 32 := 16#32
  let v2405 : BitVec 32 := Scalar.addi v2404 c16_i32_2684
  let c16_i32_2685 : BitVec 32 := 16#32
  let v2406 : BitVec 32 := Scalar.remsi v2405 c16_i32_2685
  let c1_i32_2730 : BitVec 32 := 1#32
  let v2441 : BitVec 32 := Scalar.muli v2406 c1_i32_2730
  let v2442 : BitVec 32 := Scalar.addi c0_i32_2731 v2441
  v2442.toNat
def k0_dev107 (d0 : Dev nD) : Nat :=
  let c0_i32_2765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2739 : BitVec 32 := 1#32
  let v2454 : BitVec 32 := Scalar.subi v2 c1_i32_2739
  let c16_i32_2740 : BitVec 32 := 16#32
  let v2455 : BitVec 32 := Scalar.addi v2454 c16_i32_2740
  let c16_i32_2741 : BitVec 32 := 16#32
  let v2456 : BitVec 32 := Scalar.remsi v2455 c16_i32_2741
  let c1_i32_2764 : BitVec 32 := 1#32
  let v2477 : BitVec 32 := Scalar.muli v2456 c1_i32_2764
  let v2478 : BitVec 32 := Scalar.addi c0_i32_2765 v2477
  v2478.toNat
def k0_dev108 (d0 : Dev nD) : Nat :=
  let c0_i32_2785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2736 : BitVec 32 := 1#32
  let v2451 : BitVec 32 := Scalar.addi v2 c1_i32_2736
  let c16_i32_2737 : BitVec 32 := 16#32
  let v2452 : BitVec 32 := Scalar.addi v2451 c16_i32_2737
  let c16_i32_2738 : BitVec 32 := 16#32
  let v2453 : BitVec 32 := Scalar.remsi v2452 c16_i32_2738
  let c1_i32_2784 : BitVec 32 := 1#32
  let v2488 : BitVec 32 := Scalar.muli v2453 c1_i32_2784
  let v2489 : BitVec 32 := Scalar.addi c0_i32_2785 v2488
  v2489.toNat
def k0_dev109 (d0 : Dev nD) : Nat :=
  let c0_i32_2819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2793 : BitVec 32 := 4294967295#32
  let v2501 : BitVec 32 := Scalar.subi v2 c_m1_i32_2793
  let c16_i32_2794 : BitVec 32 := 16#32
  let v2502 : BitVec 32 := Scalar.addi v2501 c16_i32_2794
  let c16_i32_2795 : BitVec 32 := 16#32
  let v2503 : BitVec 32 := Scalar.remsi v2502 c16_i32_2795
  let c1_i32_2818 : BitVec 32 := 1#32
  let v2524 : BitVec 32 := Scalar.muli v2503 c1_i32_2818
  let v2525 : BitVec 32 := Scalar.addi c0_i32_2819 v2524
  v2525.toNat
def k0_dev110 (d0 : Dev nD) : Nat :=
  let c0_i32_2839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2790 : BitVec 32 := 4294967295#32
  let v2498 : BitVec 32 := Scalar.addi v2 c_m1_i32_2790
  let c16_i32_2791 : BitVec 32 := 16#32
  let v2499 : BitVec 32 := Scalar.addi v2498 c16_i32_2791
  let c16_i32_2792 : BitVec 32 := 16#32
  let v2500 : BitVec 32 := Scalar.remsi v2499 c16_i32_2792
  let c1_i32_2838 : BitVec 32 := 1#32
  let v2535 : BitVec 32 := Scalar.muli v2500 c1_i32_2838
  let v2536 : BitVec 32 := Scalar.addi c0_i32_2839 v2535
  v2536.toNat
def k0_dev111 (d0 : Dev nD) : Nat :=
  let c0_i32_2886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2844 : BitVec 32 := 1#32
  let v2545 : BitVec 32 := Scalar.addi v2 c1_i32_2844
  let c16_i32_2845 : BitVec 32 := 16#32
  let v2546 : BitVec 32 := Scalar.addi v2545 c16_i32_2845
  let c16_i32_2846 : BitVec 32 := 16#32
  let v2547 : BitVec 32 := Scalar.remsi v2546 c16_i32_2846
  let c1_i32_2885 : BitVec 32 := 1#32
  let v2577 : BitVec 32 := Scalar.muli v2547 c1_i32_2885
  let v2578 : BitVec 32 := Scalar.addi c0_i32_2886 v2577
  v2578.toNat
def k0_dev112 (d0 : Dev nD) : Nat :=
  let c0_i32_2933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2891 : BitVec 32 := 4294967295#32
  let v2587 : BitVec 32 := Scalar.addi v2 c_m1_i32_2891
  let c16_i32_2892 : BitVec 32 := 16#32
  let v2588 : BitVec 32 := Scalar.addi v2587 c16_i32_2892
  let c16_i32_2893 : BitVec 32 := 16#32
  let v2589 : BitVec 32 := Scalar.remsi v2588 c16_i32_2893
  let c1_i32_2932 : BitVec 32 := 1#32
  let v2619 : BitVec 32 := Scalar.muli v2589 c1_i32_2932
  let v2620 : BitVec 32 := Scalar.addi c0_i32_2933 v2619
  v2620.toNat
def k0_dev113 (d0 : Dev nD) : Nat :=
  let c0_i32_2981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2938 : BitVec 32 := 1#32
  let v2629 : BitVec 32 := Scalar.addi v2 c1_i32_2938
  let c16_i32_2939 : BitVec 32 := 16#32
  let v2630 : BitVec 32 := Scalar.addi v2629 c16_i32_2939
  let c16_i32_2940 : BitVec 32 := 16#32
  let v2631 : BitVec 32 := Scalar.remsi v2630 c16_i32_2940
  let c1_i32_2980 : BitVec 32 := 1#32
  let v2661 : BitVec 32 := Scalar.muli v2631 c1_i32_2980
  let v2662 : BitVec 32 := Scalar.addi c0_i32_2981 v2661
  v2662.toNat
def k0_dev114 (d0 : Dev nD) : Nat :=
  let c0_i32_3029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_2986 : BitVec 32 := 4294967295#32
  let v2671 : BitVec 32 := Scalar.addi v2 c_m1_i32_2986
  let c16_i32_2987 : BitVec 32 := 16#32
  let v2672 : BitVec 32 := Scalar.addi v2671 c16_i32_2987
  let c16_i32_2988 : BitVec 32 := 16#32
  let v2673 : BitVec 32 := Scalar.remsi v2672 c16_i32_2988
  let c1_i32_3028 : BitVec 32 := 1#32
  let v2703 : BitVec 32 := Scalar.muli v2673 c1_i32_3028
  let v2704 : BitVec 32 := Scalar.addi c0_i32_3029 v2703
  v2704.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_3046 : BitVec 32 := 256#32
  let v2724 : BitVec 32 := Scalar.muli v2 c256_i32_3046
  let v2725 : Index := Scalar.indexCast v2724
  let c0_3047 : Index := 0#32
  ![v2725.toNat, 0]
abbrev stage0_0 : Fin 1 → Memref sig .tc .vmem S4096x256 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Prog.lean ====
/-
# The kernel's body as a program over rings and hops

The printed body is one straight line of loads, stores, signals, waits and remote copies. Here it is written as
its source reads: a prologue (the entry handshake with both neighbours, the two casts into scratch), sixty hops —
fifteen on each of the four rings, interleaved —, and an epilogue. `body_eq` says that the two are the same program.

Every piece takes the program that comes after it, so that one lemma per piece runs the whole.
-/
module

public import proofs.«01_k».proof.Proof.Gen.KernelIdeal
public import proofs.«01_k».proof.Proof.Gen.KernelIdeal.Launch
public import proofs.«01_k».proof.Proof.Gen.KernelIdeal.Points
public import Idealize.ShloMosaic.Lib.Tactic

@[expose] public section

noncomputable section

namespace Cert.KernelIdeal.Rings

open Cert.KernelIdeal Cert.KernelIdeal.Gen
open Idealize.ShloMosaic Idealize.ShloMosaic.TcCoe
open Idealize.SL.Sem

variable {F : FTy → Type} [FloatOps F]

/-- A program of one device's core. -/
abbrev P (F : FTy → Type) [FloatOps F] : Type 1 := Prog (TpuEff nD τ sig (Elt F) Λ₀ .tc) PUnit

/-! ## The buffers and semaphores -/

/-- The staged operands and the staged result. -/
abbrev xM : Memref sig .tc .vmem S4096x256 .i8 := Memref.whole cc0_stg0_0
abbrev wM : Memref sig .tc .vmem S256x2048 .i8 := Memref.whole cc0_stg1_0
abbrev sxM : Memref sig .tc .smem S1 .f32 := Memref.whole cc0_stg2_0
abbrev swM : Memref sig .tc .smem S1 .f32 := Memref.whole cc0_stg3_0
abbrev oM : Memref sig .tc .vmem S256x2048 .f32 := Memref.whole cc0_stg4_0
/-- The two operands as the ring's element type. -/
abbrev xbM : Memref sig .tc .vmem S4096x256 .bf16 := Memref.whole cc0_scratch0
abbrev wbM : Memref sig .tc .vmem S256x2048 .bf16 := Memref.whole cc0_scratch1

/-- Ring `j`'s send buffer, of two slots. -/
def sbM (j : Fin 4) : Memref sig .tc .vmem S2x256x512 .bf16 :=
  match j with
  | 0 => Memref.whole cc0_scratch2
  | 1 => Memref.whole cc0_scratch7
  | 2 => Memref.whole cc0_scratch12
  | 3 => Memref.whole cc0_scratch17

/-- Ring `j`'s landing buffer, of two slots. -/
def rbM (j : Fin 4) : Memref sig .tc .vmem S2x256x512 .bf16 :=
  match j with
  | 0 => Memref.whole cc0_scratch3
  | 1 => Memref.whole cc0_scratch8
  | 2 => Memref.whole cc0_scratch13
  | 3 => Memref.whole cc0_scratch18

theorem sbM_whole : ∀ j, (sbM j).IsWhole
  | 0 | 1 | 2 | 3 => Memref.isWhole_whole _

theorem rbM_whole : ∀ j, (rbM j).IsWhole
  | 0 | 1 | 2 | 3 => Memref.isWhole_whole _

/-- Ring `j`'s send semaphores, one per slot. -/
def ssA (j : Fin 4) : DmaSems sig S2 :=
  match j with
  | 0 => cc0_scratch4
  | 1 => cc0_scratch9
  | 2 => cc0_scratch14
  | 3 => cc0_scratch19

/-- Ring `j`'s receive semaphores, one per slot. -/
def rsA (j : Fin 4) : DmaSems sig S2 :=
  match j with
  | 0 => cc0_scratch5
  | 1 => cc0_scratch10
  | 2 => cc0_scratch15
  | 3 => cc0_scratch20

/-- Ring `j`'s credit semaphore. -/
def crA (j : Fin 4) : Sems sig S_ :=
  match j with
  | 0 => cc0_scratch6
  | 1 => cc0_scratch11
  | 2 => cc0_scratch16
  | 3 => cc0_scratch21

/-- The barrier semaphore. -/
abbrev barS : Sem sig := (SemArray.scalar (sig.barrier 0 rfl) : Sems sig S_).sem

theorem inb_sem (s : Fin 2) : ∀ a, (![s.val] : Fin 1 → Nat) a + S1.size a ≤ S2.size a := by
  revert s; decide

theorem inb_slot (s : Fin 2) : ∀ a, (![s.val, 0, 0] : Fin 3 → Nat) a + S1x256x512.size a ≤ S2x256x512.size a := by
  revert s; decide

theorem inb_col (j : Fin 4) : ∀ a, (![0, 512 * j.val] : Fin 2 → Nat) a + S256x512.size a ≤ S256x2048.size a := by
  revert j; decide

/-- The semaphore of slot `s` among two. -/
def semAt (A : DmaSems sig S2) (s : Fin 2) : DmaSem sig :=
  ((A.slice (Rect.unit (s := S2) ![s.val] S1.size (inb_sem s))).squeeze S_ squeezes_S1_S_).sem

/-- Slot `s` of a two-slot buffer, as a box of it and as a matrix. -/
abbrev slotR (s : Fin 2) : Rect S2x256x512 := Rect.unit (s := S2x256x512) ![s.val, 0, 0] S1x256x512.size (inb_slot s)
def slotM (M : Memref sig .tc .vmem S2x256x512 .bf16) (s : Fin 2) : Memref sig .tc .vmem S256x512 .bf16 :=
  (M.slice (slotR s) (fun _ => rfl)).squeeze S256x512 squeezes_S1x256x512_S256x512

/-- The columns of the second operand, and of the result, that ring `j` works on. -/
abbrev colR (j : Fin 4) : Rect S256x2048 := Rect.unit (s := S256x2048) ![0, 512 * j.val] S256x512.size (inb_col j)

theorem words_slot : ∀ s : Fin 2, (slotR s).WholeWords (EltTy.packing .bf16)
  | 0 => wordsbf16_S2x256x512_S1x256x512_0_0_0
  | 1 => wordsbf16_S2x256x512_S1x256x512_1_0_0

theorem packed_slot : ∀ s : Fin 2, (slotR s).PackedRows (EltTy.packing .bf16)
  | 0 => packedbf16_S2x256x512_S1x256x512_0_0_0
  | 1 => packedbf16_S2x256x512_S1x256x512_1_0_0

/-! ## The ring's arithmetic -/

/-- The neighbours on the mesh of sixteen. -/
def right (c : Dev nD) : Dev nD := ⟨(c.val + 1) % 16, Nat.mod_lt _ (by decide)⟩
def left (c : Dev nD) : Dev nD := ⟨(c.val + 15) % 16, Nat.mod_lt _ (by decide)⟩

/-- Rings 0 and 2 send to the right, rings 1 and 3 to the left. -/
def toRight (j : Fin 4) : Bool := j.val % 2 == 0

/-- The word a hop counts its chunk back by: `h + 1` along the ring's direction. -/
def stepW (j : Fin 4) (h : Fin 15) : BitVec 32 :=
  if toRight j then BitVec.ofNat 32 (h.val + 1) else BitVec.ofNat 32 (4294967296 - (h.val + 1))

theorem off1_inb : ∀ (c : Dev nD) (j : Fin 4) (h : Fin 15), ∀ a, k0_off1 c (stepW j h) a + S256x256.size a ≤ S4096x256.size a := by
  decide +kernel

/-- The slot a hop uses. -/
def slotOf (h : Fin 15) : Fin 2 := ⟨h.val % 2, Nat.mod_lt _ (by decide)⟩

/-- The hop before. -/
def before (h : Fin 15) : Fin 15 := ⟨h.val - 1, Nat.lt_of_le_of_lt (Nat.sub_le _ _) h.isLt⟩

/-- The device a hop's copy goes to, as the kernel computes it. -/
def dstOf (c : Dev nD) (j : Fin 4) : Dev nD :=
  if toRight j then ⟨k0_dev3 c, k0_dev3_lt c⟩ else ⟨k0_dev4 c, k0_dev4_lt c⟩

/-- The device a hop's credit goes to, as the kernel computes it. -/
def srcOf (c : Dev nD) (j : Fin 4) : Dev nD :=
  if toRight j then ⟨k0_dev7 c, k0_dev7_lt c⟩ else ⟨k0_dev9 c, k0_dev9_lt c⟩

/-! ## The values a hop computes -/

/-- The operands' words as the ring's element type. -/
def xbV (v : Vec F S4096x256 .i8) : FVec F S4096x256 .bf16 :=
  shapeCast S4096x256 (sitofp (F := F) .bf16 (shapeCast S4096x256 v shapeCasts_S4096x256_S4096x256 : IVec S4096x256 8)) shapeCasts_S4096x256_S4096x256
def wbV (v : Vec F S256x2048 .i8) : FVec F S256x2048 .bf16 :=
  shapeCast S256x2048 (sitofp (F := F) .bf16 (shapeCast S256x2048 v shapeCasts_S256x2048_S256x2048 : IVec S256x2048 8)) shapeCasts_S256x2048_S256x2048

/-- A product of a chunk of rows with a block of columns, accumulated in the wide type. -/
def prod (xv : Vec F S256x256 .bf16) (wv : Vec F S256x512 .bf16) : FVec F S256x512 .f32 :=
  matmul dot_S256x256_S256x512_S256x512_1_0_0_1_n_n none xv wv (constant S256x512 .f32 0x00000000#32)

/-- The partial sum a device adds on its way round. -/
def part (xv : Vec F S256x256 .bf16) (wv : Vec F S256x512 .bf16) : FVec F S256x512 .bf16 :=
  truncf .bf16 (prod xv wv) bitsLt_bf16_f32

/-- A slot's contents as a matrix, and a matrix as a slot's contents. -/
def ofSlot (v : Vec F S1x256x512 .bf16) : FVec F S256x512 .bf16 := shapeCast S256x512 v shapeCasts_S1x256x512_S256x512
def toSlot (v : FVec F S256x512 .bf16) : FVec F S1x256x512 .bf16 := shapeCast S1x256x512 v shapeCasts_S256x512_S1x256x512

/-- The result's block: the device's own product plus what came round, scaled. -/
def outV (s : F .f32) (xv : Vec F S256x256 .bf16) (wv : Vec F S256x512 .bf16) (acc : Vec F S1x256x512 .bf16) : FVec F S256x512 .f32 :=
  mulf (addf (prod xv wv) (extf .f32 (ofSlot acc) bitsLt_bf16_f32)) (broadcast S256x512 s)

/-! ## The pieces -/

/-- Wait for ring `j`'s send out of slot `s`. -/
def waitSend (j : Fin 4) (s : Fin 2) (k : P F) : P F :=
  .op (.waitDma2 (semAt (ssA j) s) (slotM (rbM j) s) (slotM (sbM j) s)
    (((rbM_whole j).wordExact_slice rfl _ (words_slot s)).reshape _ _) (((sbM_whole j).wordExact_slice rfl _ (words_slot s)).reshape _ _))
    fun _ => k

/-- Wait for ring `j`'s landing in slot `s`. -/
def waitRecv (j : Fin 4) (s : Fin 2) (k : P F) : P F :=
  .op (.waitDma2 (semAt (rsA j) s) (slotM (sbM j) s) (slotM (rbM j) s)
    (((sbM_whole j).wordExact_slice rfl _ (words_slot s)).reshape _ _) (((rbM_whole j).wordExact_slice rfl _ (words_slot s)).reshape _ _))
    fun _ => k

/-- Load slot `s` of ring `j`'s landing buffer. -/
def loadRecv (j : Fin 4) (s : Fin 2) (k : Vec F S1x256x512 .bf16 → P F) : P F :=
  .op (.load (rbM j) (slotR s).toLoadRect (View.loadsAt_vmem h_S1x256x512)) k

/-- Load ring `j`'s columns of the second operand. -/
def loadW (j : Fin 4) (k : Vec F S256x512 .bf16 → P F) : P F :=
  .op (.load wbM (colR j).toLoadRect (View.loadsAt_vmem h_S256x512)) k

/-- Store a slot of ring `j`'s send buffer and start its copy to the neighbour. -/
def send (c : Dev nD) (j : Fin 4) (h : Fin 15) (v : FVec F S256x512 .bf16) (k : P F) : P F :=
  .op (.load (sbM j) (slotR (slotOf h)).toLoadRect (View.loadsAt_vmem h_S1x256x512)) fun (_ : Vec F S1x256x512 .bf16) =>
  .op (.store (sbM j) (slotR (slotOf h)) (toSlot v) Finset.univ
    (View.stores_vmem h_S1x256x512 ((sbM_whole j).storeExact_slice rfl _ (packed_slot (slotOf h))) (fun _ => rfl)) (.inl rfl)) fun _ =>
  .op (.enqueueDma (slotM (sbM j) (slotOf h)) (.remote (Dev.tc (dstOf c j)) (slotM (rbM j) (slotOf h)) (.dma (semAt (ssA j) (slotOf h))))
    (.dma (semAt (rsA j) (slotOf h)))
    (((sbM_whole j).wordExact_slice rfl _ (words_slot _)).reshape _ _) (((rbM_whole j).wordExact_slice rfl _ (words_slot _)).reshape _ _)
    ⟨⟨rfl, Or.inl rfl⟩, trivial⟩) fun _ => k

/-- Wait, two hops after a send, for the slot's send and for the neighbour's credit. -/
def reuse (j : Fin 4) (h : Fin 15) (k : P F) : P F :=
  if 2 ≤ h.val then
    waitSend j (slotOf h) (.op (.semWait (crA j).sem (1#32 : BitVec 32).toInt) fun _ => k)
  else k

/-- Tell the neighbour before that its slot has been read. -/
def credit (c : Dev nD) (j : Fin 4) (h : Fin 15) (k : P F) : P F :=
  if h.val ≤ 13 then .op (.semSignal (srcOf c j, .tc) (crA j).sem (1#32 : BitVec 32).toInt) fun _ => k
  else k

/-- One hop of ring `j`. -/
def hop (c : Dev nD) (j : Fin 4) (h : Fin 15) (k : P F) : P F :=
  .op (.load xbM (Rect.unit (s := S4096x256) (k0_off1 c (stepW j h)) S256x256.size (off1_inb c j h)).toLoadRect (View.loadsAt_vmem h_S256x256))
    fun (xv : Vec F S256x256 .bf16) =>
  loadW j fun wv =>
  if 1 ≤ h.val then
    waitRecv j (slotOf (before h)) <|
    loadRecv j (slotOf (before h)) fun rv =>
    credit c j h <|
    reuse j h <|
    send c j h (addf (part xv wv) (ofSlot rv)) k
  else send c j h (part xv wv) k

/-- The first `n` hops of the sixty, in the order the rings are interleaved. -/
def hops (c : Dev nD) : (n : ℕ) → n ≤ 60 → P F → P F
  | 0, _, k => k
  | n + 1, hn, k => hops c n (Nat.le_of_succ_le hn)
      (hop c ⟨n % 4, Nat.mod_lt _ (by decide)⟩ ⟨n / 4, Nat.div_lt_of_lt_mul (Nat.lt_of_succ_le hn)⟩ k)

/-- The entry handshake and the two casts. -/
def prologue (c : Dev nD) (k : P F) : P F :=
  .op (.semSignal ((⟨k0_dev1 c, k0_dev1_lt c⟩ : Dev nD), .tc) barS (1#32 : BitVec 32).toInt) fun _ =>
  .op (.semSignal ((⟨k0_dev2 c, k0_dev2_lt c⟩ : Dev nD), .tc) barS (1#32 : BitVec 32).toInt) fun _ =>
  .op (.semWait barS (2#32 : BitVec 32).toInt) fun _ =>
  .op (.load xM (Rect.unit (s := S4096x256) ![0, 0] S4096x256.size inb_S4096x256_S4096x256_0_0).toLoadRect (View.loadsAt_vmem h_S4096x256))
    fun (v13 : Vec F S4096x256 .i8) =>
  .op (.load xbM (Rect.unit (s := S4096x256) ![0, 0] S4096x256.size inb_S4096x256_S4096x256_0_0).toLoadRect (View.loadsAt_vmem h_S4096x256))
    fun (_ : Vec F S4096x256 .bf16) =>
  .op (.store xbM (Rect.unit (s := S4096x256) ![0, 0] S4096x256.size inb_S4096x256_S4096x256_0_0) (xbV v13) Finset.univ
    (View.stores_vmem h_S4096x256 ((Memref.isWhole_whole _).storeExact_slice rfl _ packedbf16_S4096x256_S4096x256_0_0) (fun _ => rfl)) (.inl rfl)) fun _ =>
  .op (.load wM (Rect.unit (s := S256x2048) ![0, 0] S256x2048.size inb_S256x2048_S256x2048_0_0).toLoadRect (View.loadsAt_vmem h_S256x2048))
    fun (v19 : Vec F S256x2048 .i8) =>
  .op (.load wbM (Rect.unit (s := S256x2048) ![0, 0] S256x2048.size inb_S256x2048_S256x2048_0_0).toLoadRect (View.loadsAt_vmem h_S256x2048))
    fun (_ : Vec F S256x2048 .bf16) =>
  .op (.store wbM (Rect.unit (s := S256x2048) ![0, 0] S256x2048.size inb_S256x2048_S256x2048_0_0) (wbV v19) Finset.univ
    (View.stores_vmem h_S256x2048 ((Memref.isWhole_whole _).storeExact_slice rfl _ packedbf16_S256x2048_S256x2048_0_0) (fun _ => rfl)) (.inl rfl)) fun _ => k

/-- Ring `j`'s block of the result, and its last two sends waited for. -/
def finish (c : Dev nD) (s : F .f32) (j : Fin 4) (k : P F) : P F :=
  waitRecv j 0 <|
  .op (.load xbM (Rect.unit (s := S4096x256) (k0_off2 c) S256x256.size (k0_off2_inb c)).toLoadRect (View.loadsAt_vmem h_S256x256))
    fun (xv : Vec F S256x256 .bf16) =>
  loadW j fun wv =>
  loadRecv j 0 fun rv =>
  .op (.load oM (colR j).toLoadRect (View.loadsAt_vmem h_S256x512)) fun (_ : Vec F S256x512 .f32) =>
  .op (.store oM (colR j) (outV s xv wv rv) Finset.univ (View.stores_vmem_bits_univ h_S256x512 rfl) (.inl rfl)) fun _ =>
  waitSend j 1 (waitSend j 0 k)

/-- The scales read, and the four rings' blocks of the result. -/
def epilogue (c : Dev nD) : P F :=
  smemLoadElt sxM (Rect.unit (s := S1) ![0] S1.size inb_S1_S1_0) (View.loads_smem_one rfl numel1_S1) (Shape.Idx.first (numel1_S1.symm ▸ Nat.one_pos)) fun a =>
  smemLoadElt swM (Rect.unit (s := S1) ![0] S1.size inb_S1_S1_0) (View.loads_smem_one rfl numel1_S1) (Shape.Idx.first (numel1_S1.symm ▸ Nat.one_pos)) fun b =>
  finish c (Scalar.mulf a b) 0 <| finish c (Scalar.mulf a b) 1 <| finish c (Scalar.mulf a b) 2 <| finish c (Scalar.mulf a b) 3 <| .ret ⟨⟩

/-- The body. -/
def body : P F :=
  .op .deviceId fun c => prologue c (hops c 60 le_rfl (epilogue c))

/-- The printed body is that program. -/
theorem body_eq (t : Fin cfg0.N) : bodyAt0 (F := F) t = body := by
  rw [fin_N0 t]
  sl_kernel_rfl

end Cert.KernelIdeal.Rings

end
-- ==== Proof.Contents.lean ====
/-
# What travels round the rings

On ring `j` device `c` sends at hop `h` the partial sums of one chunk of rows: its own product for the chunk at hop 0,
afterwards what came from the neighbour before plus its own product for that chunk. `acc` is that sum, as the
kernel adds it; `result` is what a device stores at the end.
-/
module

public import proofs.«01_k».proof.Proof.Prog
public import Idealize.ShloMosaic.Lib.Pipeline.Value

@[expose] public section

noncomputable section

namespace Cert.KernelIdeal.Rings

open Cert.KernelIdeal Cert.KernelIdeal.Gen
open Idealize.ShloMosaic Idealize.ShloMosaic.TcCoe
open Idealize.SL.Sem

variable {F : FTy → Type} [FloatOps F]

/-! ## The two neighbours on ring `j` -/

/-- The device ring `j` sends to, and the one it hears from. -/
def nxt (j : Fin 4) (c : Dev nD) : Dev nD := if toRight j then right c else left c
def prv (j : Fin 4) (c : Dev nD) : Dev nD := if toRight j then left c else right c

theorem prv_nxt : ∀ (j : Fin 4) (c : Dev nD), prv j (nxt j c) = c := by decide +kernel
theorem nxt_prv : ∀ (j : Fin 4) (c : Dev nD), nxt j (prv j c) = c := by decide +kernel
theorem right_left : ∀ c : Dev nD, right (left c) = c := by decide
theorem left_right : ∀ c : Dev nD, left (right c) = c := by decide

theorem dev1_eq (c : Dev nD) : (⟨k0_dev1 c, k0_dev1_lt c⟩ : Dev nD) = left c := Fin.ext (k0_dev1_eq c)
theorem dev2_eq (c : Dev nD) : (⟨k0_dev2 c, k0_dev2_lt c⟩ : Dev nD) = right c := Fin.ext (k0_dev2_eq c)
theorem dstOf_eq : ∀ (c : Dev nD) (j : Fin 4), dstOf c j = nxt j c := by decide +kernel
theorem srcOf_eq : ∀ (c : Dev nD) (j : Fin 4), srcOf c j = prv j c := by decide +kernel

/-- A step along ring `j` as a permutation of the devices. -/
def along (j : Fin 4) : Dev nD ≃ Dev nD := ⟨nxt j, prv j, prv_nxt j, nxt_prv j⟩
def alongRight : Dev nD ≃ Dev nD := ⟨right, left, left_right, right_left⟩

/-- Sixteen steps back along a ring end where they began. -/
theorem prv_sixteen : ∀ (j : Fin 4) (c : Dev nD), (prv j)^[16] c = c := by decide +kernel

/-! ## The chunk of a hop -/

theorem row_inb : ∀ (q : Dev nD) (a), (![256 * q.val, 0] : Fin 2 → Nat) a + S256x256.size a ≤ S4096x256.size a := by decide

/-- The rows of the first operand that belong to device `q`'s block of the result. -/
abbrev rowR (q : Dev nD) : Rect S4096x256 := Rect.unit (s := S4096x256) ![256 * q.val, 0] S256x256.size (row_inb q)

/-- The chunk device `c` works on at hop `h` of ring `j` belongs to the device `h + 1` steps back. -/
theorem off1_eq : ∀ (c : Dev nD) (j : Fin 4) (h : Fin 15),
    k0_off1 c (stepW j h) = ![256 * ((prv j)^[h.val + 1] c).val, 0] := by decide +kernel

theorem off2_eq : ∀ c : Dev nD, k0_off2 c = ![256 * c.val, 0] := by decide +kernel

/-! ## The values -/

variable (xs : Dev nD → Vec F S4096x256 .i8) (ws : Dev nD → Vec F S256x2048 .i8)

/-- Device `c`'s rows for the result's block `q`, and its columns for ring `j`. -/
def xrow (c q : Dev nD) : Vec F S256x256 .bf16 := fun x => xbV (xs c) ((rowR q).emb x)
def wcol (c : Dev nD) (j : Fin 4) : Vec F S256x512 .bf16 := fun x => wbV (ws c) ((colR j).emb x)

/-- What device `c` adds to the partial sums of block `q` on ring `j`. -/
def share (j : Fin 4) (q c : Dev nD) : FVec F S256x512 .bf16 := part (xrow xs c q) (wcol ws c j)

/-- What device `c` sends at hop `h` of ring `j`. -/
def acc (j : Fin 4) : ℕ → Dev nD → FVec F S256x512 .bf16
  | 0, c => share xs ws j (prv j c) c
  | h + 1, c => addf (share xs ws j ((prv j)^[h + 2] c) c) (acc j h (prv j c))

/-- What device `c` stores in ring `j`'s columns of the result. -/
def result (a b : F .f32) (j : Fin 4) (c : Dev nD) : FVec F S256x512 .f32 :=
  outV (Scalar.mulf a b) (xrow xs c c) (wcol ws c j) (toSlot (acc xs ws j 14 (prv j c)))

/-- A slot read as a matrix and back. -/
theorem ofSlot_toSlot (v : FVec F S256x512 .bf16) : ofSlot (toSlot v) = v := by
  unfold ofSlot toSlot; exact shapeCast_shapeCast _ _ _

theorem toSlot_ofSlot (v : Vec F S1x256x512 .bf16) : toSlot (ofSlot v) = v := by
  unfold ofSlot toSlot; exact shapeCast_shapeCast _ _ _

end Cert.KernelIdeal.Rings

end
-- ==== Proof.Proto.lean ====
/-
# The protocol between the devices

Cells of one device: its barrier; for each ring a send and a receive cell per slot, and a credit cell.

* The barrier's two units come from the two neighbours; each unit says that the neighbour has freed its landing slots.
* The send cell of a slot gets one landing per use of the slot and gives the send slot back.
* The receive cell of a slot gets one landing per use of the slot and gives the landing slot, holding the partial sums
  of that hop.
* The credit cell gets thirteen units, unit `k` from the device after it once it has read the landing of hop `k`; the
  unit says which landing slots of that device are free. The thirteen are the duties of one round, as a wait for one
  unit may be served by any of them that has come.

A landing slot is shared between its device, who reads it and frees it, and the device before, who takes it for the next
copy. That a slot has been freed often enough for hop `h` is `Ready`.
-/
module

public import proofs.«01_k».proof.Proof.Contents
public import Idealize.ShloMosaic.Lib.Pipeline.Launch
public import Idealize.ShloMosaic.Lib.Pipeline.Kit
public import Idealize.ShloMosaic.Lib.Release

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot_release slot_take released_mono USlots heard)

variable {F : FTy → Type} [FloatOps F]

/-! ## The resource algebra: the pipeline's, the rounds', the shared slots' -/

/-- A landing slot: its device, its ring, its number. -/
abbrev Key : Type := Dev nD × Fin 4 × Fin 2
abbrev UB : Type := URounds (GSem nD τ sig) ℕ
abbrev UU : Type := UR sig nD τ × (UB × USlots Key)

/-- The model: indices, names and levels are numbers. -/
local notation "𝕄" => MT nD τ sig ℕ (Elt F) ℕ UU ℕ

abbrev EP : Emb (UR sig nD τ) (MT nD τ sig ℕ (Elt F) ℕ UU ℕ) := embL
abbrev EX : Emb (UB × USlots Key) (MT nD τ sig ℕ (Elt F) ℕ UU ℕ) := embR
abbrev ER : Emb UB (MT nD τ sig ℕ (Elt F) ℕ UU ℕ) := (Emb.inl : Emb UB (UB × USlots Key)).trans EX
abbrev ES : Emb (USlots Key) (MT nD τ sig ℕ (Elt F) ℕ UU ℕ) := (Emb.inr : Emb (USlots Key) (UB × USlots Key)).trans EX

/-! ## The cells -/

/-- The cells of one device: the barrier; per ring two send, two receive, one credit cell. -/
abbrev Kc : Type := Unit ⊕ (Fin 4 × Fin 5)

abbrev bar : Kc := .inl ()
def snd (j : Fin 4) : Fin 2 → Kc
  | 0 => .inr (j, 0)
  | 1 => .inr (j, 1)
def rcv (j : Fin 4) : Fin 2 → Kc
  | 0 => .inr (j, 2)
  | 1 => .inr (j, 3)
abbrev crd (j : Fin 4) : Kc := .inr (j, 4)

/-- The semaphore of a cell. -/
def semK : Kc → SemLoc sig
  | .inl _ => .reg barS
  | .inr (j, 0) => .dma (semAt (ssA j) 0)
  | .inr (j, 1) => .dma (semAt (ssA j) 1)
  | .inr (j, 2) => .dma (semAt (rsA j) 0)
  | .inr (j, 3) => .dma (semAt (rsA j) 1)
  | .inr (j, 4) => .reg (crA j).sem

theorem semK_inj : Function.Injective semK := by decide +kernel

theorem semK_snd (j : Fin 4) : ∀ s, semK (snd j s) = .dma (semAt (ssA j) s)
  | 0 | 1 => rfl
theorem semK_rcv (j : Fin 4) : ∀ s, semK (rcv j s) = .dma (semAt (rsA j) s)
  | 0 | 1 => rfl

abbrev kcell (c : Dev nD) (k : Kc) : GSem nD τ sig := ((c : Thread nD τ), semK k)

theorem kcell_snd (c : Dev nD) (j : Fin 4) (s : Fin 2) : kcell c (snd j s) = ((c : Thread nD τ), .dma (semAt (ssA j) s)) := by
  rw [← semK_snd]
theorem kcell_rcv (c : Dev nD) (j : Fin 4) (s : Fin 2) : kcell c (rcv j s) = ((c : Thread nD τ), .dma (semAt (rsA j) s)) := by
  rw [← semK_rcv]

/-- Which cell a semaphore is, if any. -/
def kOf (s : SemLoc sig) : Option Kc := by
  classical exact if h : ∃ k, semK k = s then some h.choose else none

theorem kOf_semK (k : Kc) : kOf (semK k) = some k := by
  unfold kOf
  have h : ∃ k', semK k' = semK k := ⟨k, rfl⟩
  rw [dif_pos h]
  exact congrArg some (semK_inj h.choose_spec)

def keyOf (g : GSem nD τ sig) : Option (Dev nD × Kc) :=
  if g.1.2 = .tc then (kOf g.2).map (Prod.mk g.1.1) else none

theorem keyOf_kcell (c : Dev nD) (k : Kc) : keyOf (kcell c k) = some (c, k) := by
  unfold keyOf; rw [if_pos rfl, kOf_semK]; rfl

/-- What a copy of one slot credits. -/
def N : ℕ := (slotM (rbM 0) 0).view.dmaCredit

theorem credit_rb : ∀ (j : Fin 4) (s : Fin 2), (slotM (rbM j) s).view.dmaCredit = N
  | 0, 0 | 0, 1 | 1, 0 | 1, 1 | 2, 0 | 2, 1 | 3, 0 | 3, 1 => rfl
theorem credit_sb : ∀ (j : Fin 4) (s : Fin 2), (slotM (sbM j) s).view.dmaCredit = N
  | 0, 0 | 0, 1 | 1, 0 | 1, 1 | 2, 0 | 2, 1 | 3, 0 | 3, 1 => rfl
theorem N_pos : 0 < N := View.dmaCredit_pos _ (by decide)

/-! ## The slots -/

/-- Slot `s` of `M` on device `c` at contents `f` of its buffer. -/
def slotPts (c : Dev nD) (M : Memref sig .tc .vmem S2x256x512 .bf16) (s : Fin 2)
    (f : Buf (Elt F) ((slotM M s).view.loc (c : Thread nD τ))) : sProp 𝕄 :=
  (slotM M s).view.loc (c : Thread nD τ) ↦[(slotM M s).view.set]{fullShare} f

/-- The slot at any contents, and at the matrix `v`. -/
def slotAny (c : Dev nD) (M : Memref sig .tc .vmem S2x256x512 .bf16) (s : Fin 2) : sProp 𝕄 := iprop(∃ f, slotPts c M s f)
def slotVal (c : Dev nD) (M : Memref sig .tc .vmem S2x256x512 .bf16) (s : Fin 2) (v : FVec F S256x512 .bf16) : sProp 𝕄 :=
  iprop(∃ f, ⌜(slotM M s).view.read (Elt F) f = v⌝ ∗ slotPts c M s f)

instance slotPts_storable (c : Dev nD) (M) (s : Fin 2) (f) : BI.Storable (upEmb : UEmb _ 𝕄) (slotPts (F := F) c M s f) := by
  unfold slotPts; infer_instance
instance slotAny_storable (c : Dev nD) (M) (s : Fin 2) : BI.Storable (upEmb : UEmb _ 𝕄) (slotAny (F := F) c M s) := by
  unfold slotAny; infer_instance
instance slotVal_storable (c : Dev nD) (M) (s : Fin 2) (v) : BI.Storable (upEmb : UEmb _ 𝕄) (slotVal (F := F) c M s v) := by
  unfold slotVal; infer_instance

theorem slotVal_any (c : Dev nD) (M) (s : Fin 2) (v : FVec F S256x512 .bf16) : slotVal c M s v ⊢ (slotAny c M s : sProp 𝕄) := by
  unfold slotVal slotAny
  iintro ⟨%f, -, H⟩
  iexists f; iexact H

/-! ## Which landing slots are free -/

/-- The slot hop `i` uses. -/
def sl (i : ℕ) : Fin 2 := ⟨i % 2, Nat.mod_lt _ (by decide)⟩

theorem two_mul_sl (i : ℕ) : 2 * (i / 2) + (sl i).val = i := by unfold sl; simp only; omega
theorem sl_add_two (i : ℕ) : sl (i + 2) = sl i := by unfold sl; simp
theorem div_add_two (i : ℕ) : (i + 2) / 2 = i / 2 + 1 := by omega

/-- The landing slot of hop `h` on ring `j` of device `n` is free for that hop, and its receive cell is at that use. -/
def Ready (n : Dev nD) (j : Fin 4) (h : ℕ) : sProp 𝕄 :=
  iprop(released ES (n, j, sl h) (h / 2 + 1) ∗ reached ER (kcell n (rcv j (sl h))) (h / 2))

/-- All hops up to `i + 1` have their landing slots free. -/
def Freed (n : Dev nD) (j : Fin 4) (i : ℕ) : sProp 𝕄 := iprop(Ready n j i ∗ Ready n j (i + 1))

instance Ready_persistent (n : Dev nD) (j : Fin 4) (h : ℕ) : BI.Persistent (Ready (F := F) n j h) := by unfold Ready; infer_instance
instance Freed_persistent (n : Dev nD) (j : Fin 4) (h : ℕ) : BI.Persistent (Freed (F := F) n j h) := by unfold Freed; infer_instance
instance Ready_storable (n : Dev nD) (j : Fin 4) (h : ℕ) : BI.Storable (upEmb : UEmb _ 𝕄) (Ready (F := F) n j h) := by
  unfold Ready; infer_instance
instance Freed_storable (n : Dev nD) (j : Fin 4) (h : ℕ) : BI.Storable (upEmb : UEmb _ 𝕄) (Freed (F := F) n j h) := by
  unfold Freed; infer_instance

theorem Ready_mono (n : Dev nD) (j : Fin 4) {h h' : ℕ} (hs : sl h' = sl h) (hle : h' / 2 ≤ h / 2) :
    Ready n j h ⊢ (Ready n j h' : sProp 𝕄) := by
  unfold Ready; rw [hs]
  exact BIClass.sep_mono (released_mono ES (Nat.succ_le_succ hle)) (reached_mono ER hle)

theorem Ready_of_Freed (n : Dev nD) (j : Fin 4) {i h : ℕ} (hle : h ≤ i + 1) : Freed n j i ⊢ (Ready n j h : sProp 𝕄) := by
  unfold Freed
  iintro ⟨H0, H1⟩
  by_cases hp : h % 2 = i % 2
  · iclear H1
    iapply (Ready_mono n j (h := i) (h' := h) (by unfold sl; exact Fin.ext hp) (by omega)) $$ H0
  · iclear H0
    iapply (Ready_mono n j (h := i + 1) (h' := h) (by unfold sl; exact Fin.ext (by simp only; omega)) (by omega)) $$ H1

/-! ## The schedule -/

variable (xs : Dev nD → Vec F S4096x256 .i8) (ws : Dev nD → Vec F S256x2048 .i8)

def dutiesK : Kc → ℕ → Finset ℕ
  | .inl _, r => if r = 0 then {0, 1} else ∅
  | .inr (_, 0), r => if 2 * r ≤ 14 then {0} else ∅
  | .inr (_, 1), r => if 2 * r + 1 ≤ 14 then {0} else ∅
  | .inr (_, 2), r => if 2 * r ≤ 14 then {0} else ∅
  | .inr (_, 3), r => if 2 * r + 1 ≤ 14 then {0} else ∅
  | .inr (_, 4), r => if r = 0 then Finset.range 13 else ∅

def amountK : Kc → ℕ
  | .inl _ => 1
  | .inr (_, 4) => 1
  | .inr (_, _) => N

theorem amountK_pos : ∀ k, 0 < amountK k
  | .inl _ => Nat.one_pos
  | .inr (_, 0) | .inr (_, 1) | .inr (_, 2) | .inr (_, 3) => N_pos
  | .inr (_, 4) => Nat.one_pos

/-- What the barrier's units hand over: the right neighbour's slots for the rings to the right, the left's for the others. -/
def barPay (c : Dev nD) (d : ℕ) : sProp 𝕄 :=
  if d = 0 then iprop(Freed (right c) 0 0 ∗ Freed (right c) 2 0) else iprop(Freed (left c) 1 0 ∗ Freed (left c) 3 0)

/-- What the landing of hop `h` hands over. -/
def rcvPay (c : Dev nD) (j : Fin 4) (s : Fin 2) (h : ℕ) : sProp 𝕄 := slotVal c (rbM j) s (acc xs ws j h (prv j c))

def payK (c : Dev nD) : Kc → ℕ → ℕ → sProp 𝕄
  | .inl _, _, d => barPay c d
  | .inr (j, 0), _, _ => slotAny c (sbM j) 0
  | .inr (j, 1), _, _ => slotAny c (sbM j) 1
  | .inr (j, 2), r, _ => rcvPay xs ws c j 0 (2 * r)
  | .inr (j, 3), r, _ => rcvPay xs ws c j 1 (2 * r + 1)
  | .inr (j, 4), _, d => Freed (nxt j c) j (d + 1)

def ringRd : Rounds.Schedule (GSem nD τ sig) ℕ 𝕄 where
  duties g r := match keyOf g with
    | some ck => dutiesK ck.2 r
    | none => ∅
  unitless _ := False
  amount g _ _ := match keyOf g with
    | some ck => amountK ck.2
    | none => 1
  payload g r d := match keyOf g with
    | some ck => payK xs ws ck.1 ck.2 r d
    | none => iprop(emp)
  amount_pos g _ _ _ := by
    split
    · exact amountK_pos _
    · exact Nat.one_pos

instance payK_storable (c : Dev nD) : ∀ (k : Kc) (r d : ℕ), BI.Storable (upEmb : UEmb _ 𝕄) (payK xs ws c k r d)
  | .inl _, _, d => by
    show BI.Storable _ (barPay c d)
    unfold barPay; split <;> infer_instance
  | .inr (j, 0), _, _ => slotAny_storable c (sbM j) 0
  | .inr (j, 1), _, _ => slotAny_storable c (sbM j) 1
  | .inr (j, 2), _, _ => slotVal_storable c (rbM j) 0 _
  | .inr (j, 3), _, _ => slotVal_storable c (rbM j) 1 _
  | .inr (j, 4), _, d => Freed_storable (nxt j c) j (d + 1)

instance ringRd_payload_storable (g : GSem nD τ sig) (r d : ℕ) :
    BI.Storable (upEmb : UEmb _ 𝕄) ((ringRd xs ws).payload g r d) := by
  show BI.Storable _ (match keyOf g with | some ck => payK xs ws ck.1 ck.2 r d | none => iprop(emp))
  split <;> infer_instance

theorem duties_eq (c : Dev nD) (k : Kc) (r : ℕ) : (ringRd xs ws).duties (kcell c k) r = dutiesK k r := by
  show (match keyOf (kcell c k) with | some ck => dutiesK ck.2 r | none => ∅) = _
  rw [keyOf_kcell]
theorem amount_eq (c : Dev nD) (k : Kc) (r d : ℕ) : (ringRd xs ws).amount (kcell c k) r d = amountK k := by
  show (match keyOf (kcell c k) with | some ck => amountK ck.2 | none => 1) = _
  rw [keyOf_kcell]
theorem payload_eq (c : Dev nD) (k : Kc) (r d : ℕ) : (ringRd xs ws).payload (kcell c k) r d = payK xs ws c k r d := by
  show (match keyOf (kcell c k) with | some ck => payK xs ws ck.1 ck.2 r d | none => iprop(emp)) = _
  rw [keyOf_kcell]
theorem expect_eq (c : Dev nD) (k : Kc) (r : ℕ) : (ringRd xs ws).expect (kcell c k) r = (dutiesK k r).card * amountK k := by
  unfold Schedule.expect Schedule.amountOf
  rw [duties_eq, Finset.sum_congr rfl fun d _ => amount_eq xs ws c k r d, Finset.sum_const, smul_eq_mul]

/-- A send or receive cell has the single duty 0 at each use of its slot. -/
theorem duties_snd (j : Fin 4) (i : ℕ) (hi : i < 15) : dutiesK (snd j (sl i)) (i / 2) = {0} := by
  have h := two_mul_sl i
  revert h
  match sl i with
  | 0 => intro h; exact if_pos (by simp at h; omega)
  | 1 => intro h; exact if_pos (by simp at h; omega)
theorem duties_rcv (j : Fin 4) (i : ℕ) (hi : i < 15) : dutiesK (rcv j (sl i)) (i / 2) = {0} := by
  have h := two_mul_sl i
  revert h
  match sl i with
  | 0 => intro h; exact if_pos (by simp at h; omega)
  | 1 => intro h; exact if_pos (by simp at h; omega)
theorem duties_snd_end (j : Fin 4) (i : ℕ) (hi : 15 ≤ i) : dutiesK (snd j (sl i)) (i / 2) = ∅ := by
  have h := two_mul_sl i
  revert h
  match sl i with
  | 0 => intro h; exact if_neg (by simp at h; omega)
  | 1 => intro h; exact if_neg (by simp at h; omega)
theorem duties_rcv_end (j : Fin 4) (i : ℕ) (hi : 15 ≤ i) : dutiesK (rcv j (sl i)) (i / 2) = ∅ := by
  have h := two_mul_sl i
  revert h
  match sl i with
  | 0 => intro h; exact if_neg (by simp at h; omega)
  | 1 => intro h; exact if_neg (by simp at h; omega)

theorem amount_snd (j : Fin 4) : ∀ s, amountK (snd j s) = N
  | 0 | 1 => rfl
theorem amount_rcv (j : Fin 4) : ∀ s, amountK (rcv j s) = N
  | 0 | 1 => rfl

theorem pay_snd (c : Dev nD) (j : Fin 4) (r d : ℕ) : ∀ s, payK xs ws c (snd j s) r d = slotAny c (sbM j) s
  | 0 | 1 => rfl
theorem pay_rcv (c : Dev nD) (j : Fin 4) (i d : ℕ) : payK xs ws c (rcv j (sl i)) (i / 2) d = rcvPay xs ws c j (sl i) i := by
  have h := two_mul_sl i
  revert h
  generalize i / 2 = r
  match sl i with
  | 0 => intro h; simp at h; subst h; rfl
  | 1 => intro h; simp at h; subst h; rfl

/-! ## What is owed, and the levels -/

/-- The copy and the credit device `c` makes at hop `h` of ring `j`. -/
def copyOwe (c : Dev nD) (j : Fin 4) (h : ℕ) : CellTallies nD τ sig ℕ := tallyAt (kcell (nxt j c) (rcv j (sl h))) h N
def credOwe (c : Dev nD) (j : Fin 4) (h : ℕ) : CellTallies nD τ sig ℕ :=
  if 1 ≤ h ∧ h ≤ 13 then tallyAt (kcell (prv j c) (crd j)) (h - 1) 1 else 0

/-- The ring of the `t`-th hop of the sixty. -/
def rg (t : ℕ) : Fin 4 := ⟨t % 4, Nat.mod_lt _ (by decide)⟩

def hopOwe (c : Dev nD) (t : ℕ) : CellTallies nD τ sig ℕ := copyOwe c (rg t) (t / 4) + credOwe c (rg t) (t / 4)

theorem ico_pop {a b : ℕ} (h : a < b) : Finset.Ico a b = insert a (Finset.Ico (a + 1) b) := by
  ext x; simp only [Finset.mem_Ico, Finset.mem_insert]; omega
theorem ico_notMem {a b : ℕ} : a ∉ Finset.Ico (a + 1) b := by
  simp only [Finset.mem_Ico]; omega

/-- What is owed before the `t`-th hop. -/
def owed (c : Dev nD) (t : ℕ) : CellTallies nD τ sig ℕ := ∑ i ∈ Finset.Ico t 60, hopOwe c i

theorem owed_step (c : Dev nD) {t : ℕ} (ht : t < 60) : owed c t = (owed c (t + 1) + copyOwe c (rg t) (t / 4)) + credOwe c (rg t) (t / 4) := by
  unfold owed
  rw [ico_pop ht, Finset.sum_insert ico_notMem]
  unfold hopOwe
  rw [add_comm, add_assoc]

theorem owed_end (c : Dev nD) : owed c 60 = 0 := by unfold owed; simp

/-- What is owed at launch: the two barrier units and the hops. -/
def O₁ (c : Dev nD) : CellTallies nD τ sig ℕ := owed c 0 + tallyAt (kcell (right c) bar) 0 1
def O₀ (c : Dev nD) : CellTallies nD τ sig ℕ := O₁ c + tallyAt (kcell (left c) bar) 0 1

def L (g : GSem nD τ sig) : Finset ℕ := if g.1.2 = .tc then Finset.range 15 else ∅

def lvK : Kc → ℕ → ℕ
  | .inl _, _ => 1
  | .inr (j, 2), i => 2 * (4 * i + j.val) + 3
  | .inr (j, 3), i => 2 * (4 * i + j.val) + 3
  | .inr (j, 4), i => 2 * (4 * (i + 1) + j.val) + 2
  | .inr (_, _), _ => 0

def lv (g : GSem nD τ sig) (i : ℕ) : ℕ := match keyOf g with
  | some ck => lvK ck.2 i
  | none => 0

theorem lv_kcell (c : Dev nD) (k : Kc) (i : ℕ) : lv (kcell c k) i = lvK k i := by unfold lv; rw [keyOf_kcell]

theorem lv_rcv (j : Fin 4) (i : ℕ) : ∀ s, lvK (rcv j s) i = 2 * (4 * i + j.val) + 3
  | 0 | 1 => rfl
theorem lv_snd (j : Fin 4) (i : ℕ) : ∀ s, lvK (snd j s) i = 0
  | 0 | 1 => rfl

theorem L_of_ne (g : GSem nD τ sig) (h : g.1.2 ≠ .tc) : L g = ∅ := if_neg h
theorem L_tc (c : Dev nD) (sm : SemLoc sig) : L ((c : Thread nD τ), sm) = Finset.range 15 := if_pos rfl

/-- Everything a tally holds lies above `b`, at an index below 15 of a device's core. -/
def Above (b : ℕ) (O : CellTallies nD τ sig ℕ) : Prop := ∀ g i, 0 < O g i → i ∈ L g ∧ b < lv g i

theorem Above.zero (b : ℕ) : Above b 0 := fun g i h => absurd h (Nat.lt_irrefl 0)
theorem Above.add {b : ℕ} {O O' : CellTallies nD τ sig ℕ} (h : Above b O) (h' : Above b O') : Above b (O + O') := fun g i hp => by
  rw [Pi.add_apply, Finsupp.add_apply] at hp
  rcases Nat.eq_zero_or_pos (O g i) with h0 | h0
  · exact h' g i (by omega)
  · exact h g i h0
theorem Above.tally {b : ℕ} (c : Dev nD) (k : Kc) (i n : ℕ) (hi : i < 15) (hb : b < lvK k i) : Above b (tallyAt (kcell c k) i n) := fun g i' hp => by
  rw [tallyAt_apply] at hp
  by_cases h : g = kcell c k ∧ i' = i
  · obtain ⟨rfl, rfl⟩ := h
    exact ⟨by rw [L_tc]; exact Finset.mem_range.mpr hi, by rw [lv_kcell]; exact hb⟩
  · rw [if_neg h] at hp; exact absurd hp (Nat.lt_irrefl 0)
theorem Above.sum {b : ℕ} (s : Finset ℕ) (f : ℕ → CellTallies nD τ sig ℕ) (h : ∀ i ∈ s, Above b (f i)) : Above b (∑ i ∈ s, f i) := by
  classical
  induction s using Finset.induction_on with
  | empty => exact Above.zero b
  | insert a s ha ih =>
    rw [Finset.sum_insert ha]
    exact (h a (Finset.mem_insert_self _ _)).add (ih fun i hi => h i (Finset.mem_insert_of_mem hi))

theorem above_copy (c : Dev nD) {t b : ℕ} (ht : t < 60) (hb : b < 2 * t + 3) : Above b (copyOwe c (rg t) (t / 4)) :=
  Above.tally _ _ _ _ (by omega) (by rw [lv_rcv]; simp only [rg]; omega)
theorem above_cred (c : Dev nD) {t b : ℕ} (ht : t < 60) (hb : b < 2 * t + 2) : Above b (credOwe c (rg t) (t / 4)) := by
  unfold credOwe
  split
  · exact Above.tally _ _ _ _ (by omega) (by simp only [rg, lvK]; omega)
  · exact Above.zero b
theorem above_owed (c : Dev nD) {t b : ℕ} (hb : b < 2 * t + 2) : Above b (owed c t) :=
  Above.sum _ _ fun i hi => by
    rw [Finset.mem_Ico] at hi
    exact (above_copy c hi.2 (by omega)).add (above_cred c hi.2 (by omega))

/-- A wait below everything owed may be made. -/
theorem mayWait_of (c : Dev nD) (k : Kc) (i b : ℕ) (O : CellTallies nD τ sig ℕ) (hi : i < 15) (hk : lvK k i ≤ b) (hO : Above b O) :
    (levAts L lv : sProp 𝕄) ⊢ MayWait (c : Thread nD τ) (semK k) i O :=
  MayOwe.of_cut (L := L) (lev := lv) b
    (fun p hp => by rw [Finset.mem_singleton.mp hp, L_tc]; exact Finset.mem_range.mpr hi)
    (fun g u hg => (hO g u hg).1)
    (fun p hp => by rw [Finset.mem_singleton.mp hp]; exact (lv_kcell c k i).le.trans hk)
    (fun g u hg => (hO g u hg).2)

end Cert.KernelIdeal.Rings

end
-- ==== Proof.Steps.lean ====
/-
# One rule per step of the ring

The steps of a hop — wait for a landing and read it, wait for a send, start a send, pay a credit, take a credit — each as
a rule about the piece of program that makes it, at any device, ring and hop.
-/
module

public import proofs.«01_k».proof.Proof.Proto

@[expose] public section

set_option maxRecDepth 8000

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot_release slot_take released_mono USlots heard)

variable {F : FTy → Type} [FloatOps F]

local notation "𝕄" => MT nD τ sig ℕ (Elt F) ℕ UU ℕ

abbrev 𝒱₀ : Variants := Variants.none

/-- Device `c` runs `p` and ends in `Q`. -/
abbrev Wp (c : Dev nD) (p : P F) (Q : PUnit → sProp 𝕄) : sProp 𝕄 :=
  wp frame (wpE (defs₀ (F := F)) 𝒱₀ (c : Thread nD τ) none) Set.univ p Q

/-! ## A slot loaded and stored -/

theorem slot_set (M : Memref sig .tc .vmem S2x256x512 .bf16) (s : Fin 2) : (slotM M s).view.set = (M.view.slice (slotR s)).set := by
  unfold slotM; exact View.set_reshape _ _
theorem slot_setOn (M : Memref sig .tc .vmem S2x256x512 .bf16) (s : Fin 2) : M.view.setOn (slotR s).toLoadRect.set ⊆ (slotM M s).view.set := by
  rw [slot_set, View.set_slice]; exact subset_rfl

theorem slot_read (M : Memref sig .tc .vmem S2x256x512 .bf16) (s : Fin 2) (f : M.view.ty.Contents (Elt F)) :
    ofSlot (M.view.readAt (Elt F) (slotR s).toLoadRect f) = (slotM M s).view.read (Elt F) f := rfl

theorem slot_write (M : Memref sig .tc .vmem S2x256x512 .bf16) (s : Fin 2) (f : M.view.ty.Contents (Elt F)) (v : FVec F S256x512 .bf16) :
    (slotM M s).view.read (Elt F) ((M.access (slotR s)).write (Elt F) f (toSlot v) Finset.univ) = v := by
  rw [← slot_read]
  refine (congrArg ofSlot ?_).trans (ofSlot_toSlot v)
  exact View.read_write_univ (v := M.access (slotR s)) f (toSlot v)

theorem slot_load_at (c : Dev nD) (M : Memref sig .tc .vmem S2x256x512 .bf16) (s : Fin 2) (f)
    {hl : M.view.LoadsAt (slotR s).toLoadRect} (k : Vec F S1x256x512 .bf16 → P F) (Q : PUnit → sProp 𝕄) :
    slotPts c M s f ⊢ iprop((slotPts c M s f -∗ Wp c (k (M.view.readAt (Elt F) (slotR s).toLoadRect f)) Q)
      -∗ Wp c (.op (.load M (slotR s).toLoadRect hl) k) Q) :=
  wp_load 𝒱₀ (c : Thread nD τ) none Set.univ (m := M) (f := f) (slot_setOn M s)

theorem slot_store_at (c : Dev nD) (M : Memref sig .tc .vmem S2x256x512 .bf16) (s : Fin 2) (f) (w : FVec F S1x256x512 .bf16)
    {hx : (M.access (slotR s)).Stores Finset.univ} {hm} (k : P F) (Q : PUnit → sProp 𝕄) :
    slotPts c M s f ⊢ iprop((slotPts c M s ((M.access (slotR s)).write (Elt F) f w Finset.univ) -∗ Wp c k Q)
      -∗ Wp c (.op (.store M (slotR s) w Finset.univ hx hm) fun _ => k) Q) :=
  wp_store 𝒱₀ (c : Thread nD τ) none Set.univ (m := M) (r := slotR s) (f := f) (w := w) (Mk := Finset.univ) (hx := hx) (hm := hm) (k := fun _ => k) (Q := Q) (S := (slotM M s).view.set) (by rw [slot_set]; exact subset_rfl)

theorem slot_load (c : Dev nD) (M : Memref sig .tc .vmem S2x256x512 .bf16) (s : Fin 2) (v : FVec F S256x512 .bf16)
    {hl : M.view.LoadsAt (slotR s).toLoadRect} (k : Vec F S1x256x512 .bf16 → P F) (Q : PUnit → sProp 𝕄) :
    slotVal c M s v ⊢ iprop((slotVal c M s v -∗ Wp c (k (toSlot v)) Q) -∗ Wp c (.op (.load M (slotR s).toLoadRect hl) k) Q) := by
  unfold slotVal
  iintro ⟨%f, %hf, H⟩ Hk
  iapply (slot_load_at c M s f _ Q) $$ H
  iintro H
  rw [show M.view.readAt (Elt F) (slotR s).toLoadRect f = toSlot v from
    (toSlot_ofSlot _).symm.trans (congrArg toSlot ((slot_read M s f).trans hf))]
  iapply Hk
  iexists f
  isplitr; · ipureintro; exact hf
  iexact H

theorem slot_load_any (c : Dev nD) (M : Memref sig .tc .vmem S2x256x512 .bf16) (s : Fin 2)
    {hl : M.view.LoadsAt (slotR s).toLoadRect} (k : P F) (Q : PUnit → sProp 𝕄) :
    slotAny c M s ⊢ iprop((slotAny c M s -∗ Wp c k Q) -∗ Wp c (.op (.load M (slotR s).toLoadRect hl) fun _ => k) Q) := by
  unfold slotAny
  iintro ⟨%f, H⟩ Hk
  iapply (slot_load_at c M s f _ Q) $$ H
  iintro H
  iapply Hk
  iexists f; iexact H

theorem slot_store (c : Dev nD) (M : Memref sig .tc .vmem S2x256x512 .bf16) (s : Fin 2) (v : FVec F S256x512 .bf16)
    {hx : (M.access (slotR s)).Stores Finset.univ} {hm} (k : P F) (Q : PUnit → sProp 𝕄) :
    slotAny c M s ⊢ iprop((slotVal c M s v -∗ Wp c k Q) -∗ Wp c (.op (.store M (slotR s) (toSlot v) Finset.univ hx hm) fun _ => k) Q) := by
  unfold slotAny slotVal
  iintro ⟨%f, H⟩ Hk
  iapply (slot_store_at c M s f (toSlot v) k Q) $$ H
  iintro H
  iapply Hk
  iexists _
  isplitr; · ipureintro; exact slot_write M s f v
  iexact H

/-! ## What every device knows -/

variable (xs : Dev nD → Vec F S4096x256 .i8) (ws : Dev nD → Vec F S256x2048 .i8)
variable (K : Dev nD × Kc → ℕ) (S : Key → ℕ)

/-- The invariants of all cells and landing slots, that every cell is at its start, and the levels. -/
def recs : sProp 𝕄 :=
  iprop((bigSep Finset.univ fun ck : Dev nD × Kc => cellInv ER (ringRd xs ws) (K ck) (kcell ck.1 ck.2))
    ∗ (bigSep Finset.univ fun x : Key => slotInv ES (S x) x (slotAny x.1 (rbM x.2.1) x.2.2))
    ∗ (bigSep Finset.univ fun ck : Dev nD × Kc => reached ER (kcell ck.1 ck.2) 0)
    ∗ levAts L lv)

instance recs_persistent : BI.Persistent (recs xs ws K S) := by unfold recs; infer_instance

theorem big_elim {I : Type} [Fintype I] [DecidableEq I] (Φ : I → sProp 𝕄) (i : I) : bigSep Finset.univ Φ ⊢ Φ i :=
  bigSep_elim (Finset.mem_univ i)

theorem recs_cell (c : Dev nD) (k : Kc) : recs xs ws K S ⊢ cellInv ER (ringRd xs ws) (K (c, k)) (kcell c k) := by
  unfold recs
  iintro ⟨H, -⟩
  iapply (big_elim (fun ck : Dev nD × Kc => cellInv ER (ringRd xs ws) (K ck) (kcell ck.1 ck.2)) (c, k)) $$ H
theorem recs_slot (c : Dev nD) (j : Fin 4) (s : Fin 2) : recs xs ws K S ⊢ slotInv ES (S (c, j, s)) (c, j, s) (slotAny c (rbM j) s) := by
  unfold recs
  iintro ⟨-, H, -⟩
  iapply (big_elim (fun x : Key => slotInv ES (S x) x (slotAny x.1 (rbM x.2.1) x.2.2)) (c, j, s)) $$ H
theorem recs_reached (c : Dev nD) (k : Kc) : recs xs ws K S ⊢ reached ER (kcell c k) 0 := by
  unfold recs
  iintro ⟨-, -, H, -⟩
  iapply (big_elim (fun ck : Dev nD × Kc => reached ER (kcell ck.1 ck.2) 0) (c, k)) $$ H
theorem recs_lev : recs xs ws K S ⊢ (levAts L lv : sProp 𝕄) := by
  unfold recs
  iintro ⟨-, -, -, H⟩; iexact H

/-! ## The states of a slot -/

/-- The send slot of hop `i`, ready for it. -/
def sFree (c : Dev nD) (j : Fin 4) (i : ℕ) : sProp 𝕄 :=
  iprop(slotAny c (sbM j) (sl i) ∗ atPos ER (kcell c (snd j (sl i))) (i / 2) ∅ 0 ∗ reached ER (kcell c (snd j (sl i))) (i / 2))
/-- The send of hop `i` under way. -/
def sent (c : Dev nD) (j : Fin 4) (i : ℕ) : sProp 𝕄 :=
  iprop(cred (tallyAt (kcell c (snd j (sl i))) 0 N) ∗ atPos ER (kcell c (snd j (sl i))) (i / 2) ∅ 0)
/-- The landing slot of hop `i`, not yet landed: the reader's place at its cell and its count. -/
def Rcv (c : Dev nD) (j : Fin 4) (i : ℕ) : sProp 𝕄 :=
  iprop(atPos ER (kcell c (rcv j (sl i))) (i / 2) ∅ 0 ∗ readerAt ES (c, j, sl i) (i / 2 + 1))
/-- The landing of hop `i` in hand, at the partial sums `v`. -/
def landed (c : Dev nD) (j : Fin 4) (i : ℕ) (v : FVec F S256x512 .bf16) : sProp 𝕄 :=
  iprop(slotVal c (rbM j) (sl i) v ∗ atPos ER (kcell c (rcv j (sl i))) (i / 2 + 1) ∅ 0
    ∗ reached ER (kcell c (rcv j (sl i))) (i / 2 + 1) ∗ readerAt ES (c, j, sl i) (i / 2 + 1))

/-! ## The steps -/

theorem sb_words (j : Fin 4) (s : Fin 2) : (slotM (sbM j) s).view.WordExact :=
  ((sbM_whole j).wordExact_slice rfl _ (words_slot s)).reshape _ _
theorem rb_words (j : Fin 4) (s : Fin 2) : (slotM (rbM j) s).view.WordExact :=
  ((rbM_whole j).wordExact_slice rfl _ (words_slot s)).reshape _ _

/-- A wait on a cell of copies for its whole open round. -/
theorem wait_dma (c : Dev nD) (q : DmaSem sig) (src dst : Memref sig .tc .vmem S256x512 .bf16)
    (h₁ : src.view.WordExact) (h₂ : dst.view.WordExact) {κ R i : ℕ} {O : CellTallies nD τ sig ℕ} {W : Waits sig ℕ}
    (hk : 0 + dst.view.dmaCredit = (ringRd xs ws).expect ((c : Thread nD τ), .dma q) R) (k : P F) (Q : PUnit → sProp 𝕄) :
    iprop(cellInv ER (ringRd xs ws) κ ((c : Thread nD τ), .dma q) ∗ cred (tallyAt ((c : Thread nD τ), .dma q) i dst.view.dmaCredit)
        ∗ owes (c : Thread nD τ) O W ∗ MayWait (c : Thread nD τ) (.dma q) i O ∗ atPos ER ((c : Thread nD τ), .dma q) R ∅ 0)
      ⊢ iprop(((owes (c : Thread nD τ) O (insert (SemLoc.dma q, i) W)
              ∗ atPos ER ((c : Thread nD τ), .dma q) (R + 1) ∅ 0 ∗ reached ER ((c : Thread nD τ), .dma q) (R + 1)
              ∗ bigSep ((ringRd xs ws).duties ((c : Thread nD τ), .dma q) R \ ∅) (fun d => (ringRd xs ws).payload ((c : Thread nD τ), .dma q) R d))
            -∗ Wp c k Q)
          -∗ Wp c (.op (.waitDma2 q src dst h₁ h₂) fun _ => k) Q) :=
  Rounds.wp_wait_rest_token 𝒱₀ ER (ringRd xs ws) (c : Thread nD τ) none (κ := κ) (k := fun _ => k)
    (w := .waitDma2 q src dst h₁ h₂) (wpE_waitDma2_eq 𝒱₀ (c : Thread nD τ) none Set.univ) (Set.mem_univ _) i (O := O) (W := W) (R := R) (m := 0) (T := ∅) hk

/-- The wait for the send of hop `i` frees its slot for hop `i + 2`. -/
theorem step_waitSend (c : Dev nD) (j : Fin 4) (i : ℕ) (hi : i < 15) {O : CellTallies nD τ sig ℕ} {W : Waits sig ℕ} (hO : Above 0 O)
    (k : P F) (Q : PUnit → sProp 𝕄) :
    iprop(recs xs ws K S ∗ owes (c : Thread nD τ) O W ∗ sent c j i)
      ⊢ iprop(((∃ W, owes (c : Thread nD τ) O W) ∗ sFree c j (i + 2) -∗ Wp c k Q) -∗ Wp c (waitSend j (sl i) k) Q) := by
  unfold sent sFree waitSend
  rw [sl_add_two, div_add_two]
  iintro ⟨#HR, HO, Hc, Hat⟩ Hk
  ihave #HI := (recs_cell xs ws K S c (snd j (sl i))) $$ HR
  ihave #Hlev := (recs_lev xs ws K S) $$ HR
  have hM : (levAts L lv : sProp 𝕄) ⊢ MayWait (c : Thread nD τ) (semK (snd j (sl i))) 0 O := mayWait_of (F := F) c (snd j (sl i)) 0 0 O (by decide) (lv_snd j 0 _).le hO
  ihave #HM := hM $$ Hlev
  have hk : 0 + (slotM (sbM j) (sl i)).view.dmaCredit = (ringRd xs ws).expect ((c : Thread nD τ), .dma (semAt (ssA j) (sl i))) (i / 2) := by
    rw [← kcell_snd, expect_eq, duties_snd j i hi, amount_snd, credit_sb, Finset.card_singleton, one_mul, zero_add]
  rw [kcell_snd, semK_snd]
  iapply (wait_dma xs ws c _ (slotM (rbM j) (sl i)) (slotM (sbM j) (sl i)) (rb_words j _) (sb_words j _) (κ := K (c, snd j (sl i))) (i := 0) hk k Q) $$ [HO Hc Hat]
  · isplitr; · iexact HI
    isplitl [Hc]; · rw [credit_sb]; iexact Hc
    isplitl [HO]; · iexact HO
    isplitr; · iexact HM
    iexact Hat
  iintro ⟨HO, Hat, #Hr, Hpay⟩
  ihave Hp := (Entails.of_eq (show bigSep ((ringRd xs ws).duties ((c : Thread nD τ), .dma (semAt (ssA j) (sl i))) (i / 2) \ ∅)
      (fun d => (ringRd xs ws).payload ((c : Thread nD τ), .dma (semAt (ssA j) (sl i))) (i / 2) d) = slotAny c (sbM j) (sl i) from by
    rw [← kcell_snd, Finset.sdiff_empty, duties_eq, duties_snd j i hi, bigSep_singleton, payload_eq, pay_snd])) $$ Hpay
  iapply Hk
  isplitl [HO]; · iexists _; iexact HO
  isplitl [Hp]; · iexact Hp
  isplitl [Hat]; · iexact Hat
  iexact Hr

/-- The wait for the landing of hop `i` hands over the partial sums the neighbour sent. -/
theorem step_waitRecv (c : Dev nD) (j : Fin 4) (i b : ℕ) (hi : i < 15) {O : CellTallies nD τ sig ℕ} {W : Waits sig ℕ}
    (hb : 2 * (4 * i + j.val) + 3 ≤ b) (hO : Above b O) (k : P F) (Q : PUnit → sProp 𝕄) :
    iprop(recs xs ws K S ∗ owes (c : Thread nD τ) O W ∗ Rcv c j i ∗ cred (tallyAt (kcell c (rcv j (sl i))) i N))
      ⊢ iprop(((∃ W, owes (c : Thread nD τ) O W) ∗ landed c j i (acc xs ws j i (prv j c)) -∗ Wp c k Q) -∗ Wp c (waitRecv j (sl i) k) Q) := by
  unfold Rcv landed waitRecv
  iintro ⟨#HR, HO, ⟨Hat, Hrd⟩, Hc⟩ Hk
  ihave #HI := (recs_cell xs ws K S c (rcv j (sl i))) $$ HR
  ihave #Hlev := (recs_lev xs ws K S) $$ HR
  have hM : (levAts L lv : sProp 𝕄) ⊢ MayWait (c : Thread nD τ) (semK (rcv j (sl i))) i O := mayWait_of (F := F) c (rcv j (sl i)) i b O hi ((lv_rcv j i _).le.trans hb) hO
  ihave #HM := hM $$ Hlev
  have hk : 0 + (slotM (rbM j) (sl i)).view.dmaCredit = (ringRd xs ws).expect ((c : Thread nD τ), .dma (semAt (rsA j) (sl i))) (i / 2) := by
    rw [← kcell_rcv, expect_eq, duties_rcv j i hi, amount_rcv, credit_rb, Finset.card_singleton, one_mul, zero_add]
  rw [kcell_rcv, semK_rcv]
  iapply (wait_dma xs ws c _ (slotM (sbM j) (sl i)) (slotM (rbM j) (sl i)) (sb_words j _) (rb_words j _) (κ := K (c, rcv j (sl i))) (i := i) hk k Q) $$ [HO Hc Hat]
  · isplitr; · iexact HI
    isplitl [Hc]; · rw [credit_rb]; iexact Hc
    isplitl [HO]; · iexact HO
    isplitr; · iexact HM
    iexact Hat
  iintro ⟨HO, Hat, #Hr, Hpay⟩
  ihave Hp := (Entails.of_eq (show bigSep ((ringRd xs ws).duties ((c : Thread nD τ), .dma (semAt (rsA j) (sl i))) (i / 2) \ ∅)
      (fun d => (ringRd xs ws).payload ((c : Thread nD τ), .dma (semAt (rsA j) (sl i))) (i / 2) d) = slotVal c (rbM j) (sl i) (acc xs ws j i (prv j c)) from by
    rw [← kcell_rcv, Finset.sdiff_empty, duties_eq, duties_rcv j i hi, bigSep_singleton, payload_eq, pay_rcv]; rfl)) $$ Hpay
  iapply Hk
  isplitl [HO]; · iexists _; iexact HO
  isplitl [Hp]; · iexact Hp
  isplitl [Hat]; · iexact Hat
  isplitr; · iexact Hr
  iexact Hrd

theorem slotAny_excl (c : Dev nD) (j : Fin 4) (s : Fin 2) : iprop(slotAny c (rbM j) s ∗ slotAny c (rbM j) s) ⊢ (False : sProp 𝕄) :=
  Release.slot_slot_false (ℓ := (slotM (rbM j) s).view.loc (c : Thread nD τ)) ((slotM (rbM j) s).view.set_nonempty (by decide))

/-- A landing that has been read is given back, and its slot is free for hop `i + 2`. -/
theorem give_back (c : Dev nD) (j : Fin 4) (i : ℕ) (v : FVec F S256x512 .bf16) :
    iprop(recs xs ws K S ∗ landed c j i v) ⊢ iprop(|={Set.univ}=> (Rcv c j (i + 2) ∗ Ready c j (i + 2))) := by
  unfold landed Rcv Ready
  rw [sl_add_two, div_add_two]
  iintro ⟨#HR, Hs, Hat, #Hr, Hrd⟩
  ihave #HI := (recs_slot xs ws K S c j (sl i)) $$ HR
  ihave Hs := (slotVal_any c (rbM j) (sl i) v) $$ Hs
  imod (slot_release ES (Set.mem_univ (S (c, j, sl i))) (slotAny_excl c j (sl i)) (i / 2 + 1)) $$ [Hs Hrd] with ⟨Hrd, #Hrel⟩
  · isplitr; · iexact HI
    isplitl [Hrd]; · iexact Hrd
    iexact Hs
  imodintro
  isplitl [Hat Hrd]
  · isplitl [Hat]; · iexact Hat
    iexact Hrd
  isplitr; · iexact Hrel
  iexact Hr

/-- A landing read. -/
theorem step_loadRecv (c : Dev nD) (j : Fin 4) (i : ℕ) (v : FVec F S256x512 .bf16) (k : Vec F S1x256x512 .bf16 → P F) (Q : PUnit → sProp 𝕄) :
    landed c j i v ⊢ iprop((landed c j i v -∗ Wp c (k (toSlot v)) Q) -∗ Wp c (loadRecv j (sl i) k) Q) := by
  unfold landed loadRecv
  iintro ⟨Hs, Hrest⟩ Hk
  iapply (slot_load c (rbM j) (sl i) v k Q) $$ Hs
  iintro Hs
  iapply Hk
  isplitl [Hs]; · iexact Hs
  iexact Hrest

/-- What the send of hop `i` uses up: the right to take the neighbour's landing slot and to pay the two cells. -/
def sendToks (c : Dev nD) (j : Fin 4) (i : ℕ) : sProp 𝕄 :=
  iprop(writeTok ES (nxt j c, j, sl i) (i / 2 + 1) ∗ dutyTok ER (kcell c (snd j (sl i))) (i / 2) 0
    ∗ dutyTok ER (kcell (nxt j c) (rcv j (sl i))) (i / 2) 0)

/-- The copy of hop `h`. -/
theorem step_copy (c n : Dev nD) (j : Fin 4) (i : ℕ) (hn : n = nxt j c) (hi : i < 15) {O : CellTallies nD τ sig ℕ} {W : Waits sig ℕ}
    {h₁ h₂ h₃ h₄} (k : P F) (Q : PUnit → sProp 𝕄) :
    iprop(recs xs ws K S ∗ owes (c : Thread nD τ) (O + copyOwe c j i) W
        ∗ slotVal c (sbM j) (sl i) (acc xs ws j i c) ∗ atPos ER (kcell c (snd j (sl i))) (i / 2) ∅ 0 ∗ reached ER (kcell c (snd j (sl i))) (i / 2)
        ∗ Ready (nxt j c) j i ∗ sendToks c j i)
      ⊢ iprop((owes (c : Thread nD τ) O W ∗ sent c j i -∗ Wp c k Q)
        -∗ Wp c (.op (.enqueueDma (slotM (sbM j) (sl i)) (.remote (Dev.tc n) (slotM (rbM j) (sl i)) (.dma (semAt (ssA j) (sl i))) h₁)
            (.dma (semAt (rsA j) (sl i))) h₂ h₃ h₄) fun _ => k) Q) := by
  subst hn
  unfold sendToks sent slotVal slotPts Ready
  iintro ⟨#HR, HO, ⟨%f, %hf, Hs⟩, Hat, #Hr1, ⟨#Hrel, #Hr2⟩, Hw, Ht1, Ht2⟩ Hk
  ihave #HI1 := (recs_cell xs ws K S c (snd j (sl i))) $$ HR
  ihave #HI2 := (recs_cell xs ws K S (nxt j c) (rcv j (sl i))) $$ HR
  ihave #HI3 := (recs_slot xs ws K S (nxt j c) j (sl i)) $$ HR
  imod (slot_take ES (Set.mem_univ (S (nxt j c, j, sl i))) (i / 2 + 1)) $$ [Hw] with Hd
  · isplitr; · iexact HI3
    isplitr; · iexact Hrel
    iexact Hw
  unfold slotAny slotPts
  icases Hd with ⟨%fd, Hd⟩
  rw [kcell_snd, kcell_rcv]
  iapply (Rounds.wp_send_pointsTo 𝒱₀ ER (ringRd xs ws) (c : Thread nD τ) none (c' := (nxt j c : Thread nD τ)) (sS := .dma (semAt (ssA j) (sl i))) (sem := .dma (semAt (rsA j) (sl i))) (κ₁ := K (c, snd j (sl i))) (κ₂ := K (nxt j c, rcv j (sl i)))
    (src := slotM (sbM j) (sl i)) (dst := slotM (rbM j) (sl i))
    (r₁ := i / 2) (r₂ := i / 2) (d₁ := 0) (d₂ := 0) (fs := f) (fd := fd)
    (by rw [← kcell_snd, duties_eq, duties_snd j i hi]; exact Finset.mem_singleton_self _)
    (by rw [← kcell_rcv, duties_eq, duties_rcv j i hi]; exact Finset.mem_singleton_self _)
    i 0 N (by rw [View.amount_dma]; exact credit_rb j (sl i))
    (by rw [← kcell_snd, amount_eq, amount_snd]) (by rw [← kcell_rcv, amount_eq, amount_rcv]) O
    (O₀ := O + copyOwe c j i) (by unfold copyOwe; rw [kcell_rcv]) (W := W)
    (by rw [← kcell_snd, payload_eq, pay_snd]; unfold slotAny slotPts; iintro H; iexists f; iexact H)
    (by
      rw [← kcell_rcv, payload_eq, pay_rcv]; unfold rcvPay slotVal slotPts; rw [prv_nxt]
      iintro H; iexists _
      isplitr
      · ipureintro; exact (View.read_write_univ (v := (slotM (rbM j) (sl i)).view) fd _).trans hf
      iexact H)) $$ [HO Hs Hd Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexact HO
  isplitl [Hc]; · iexact Hc
  iexact Hat

/-- The send of hop `h`: the slot stored, the copy started. -/
theorem step_send (c : Dev nD) (j : Fin 4) (h : Fin 15) {O : CellTallies nD τ sig ℕ} {W : Waits sig ℕ} (k : P F) (Q : PUnit → sProp 𝕄)
    (v : FVec F S256x512 .bf16) (hv : v = acc xs ws j h.val c) :
    iprop(recs xs ws K S ∗ owes (c : Thread nD τ) (O + copyOwe c j h.val) W ∗ sFree c j h.val ∗ Ready (nxt j c) j h.val ∗ sendToks c j h.val)
      ⊢ iprop((owes (c : Thread nD τ) O W ∗ sent c j h.val -∗ Wp c k Q) -∗ Wp c (send c j h v k) Q) := by
  subst hv
  unfold sFree send
  iintro ⟨#HR, HO, ⟨Hs, Hat, #Hr⟩, #HRy, Ht⟩ Hk
  iapply (slot_load_any c (sbM j) (sl h.val) _ Q) $$ Hs
  iintro Hs
  iapply (slot_store c (sbM j) (sl h.val) (acc xs ws j h.val c) _ Q) $$ Hs
  iintro Hs
  iapply (step_copy xs ws K S c (dstOf c j) j h.val (dstOf_eq c j) h.isLt k Q) $$ [HO Hs Hat Ht]
  · isplitr; · iexact HR
    isplitl [HO]; · iexact HO
    isplitl [Hs]; · iexact Hs
    isplitl [Hat]; · iexact Hat
    isplitr; · iexact Hr
    isplitr; · iexact HRy
    iexact Ht
  iexact Hk

/-- The credit of hop `h`, for `1 ≤ h ≤ 13`. -/
theorem step_credit (c n : Dev nD) (j : Fin 4) (d : ℕ) (hn : n = prv j c) (hd : d < 13) {O : CellTallies nD τ sig ℕ} {W : Waits sig ℕ} {k' : ℕ}
    (hk' : k' = 1) (k : P F) (Q : PUnit → sProp 𝕄) :
    iprop(recs xs ws K S ∗ owes (c : Thread nD τ) (O + tallyAt (kcell (prv j c) (crd j)) d 1) W ∗ dutyTok ER (kcell (prv j c) (crd j)) 0 d
        ∗ Freed c j (d + 1))
      ⊢ iprop((owes (c : Thread nD τ) O W -∗ Wp c k Q) -∗ Wp c (.op (.semSignal ((n, .tc) : Thread nD τ) (crA j).sem k') fun _ => k) Q) := by
  subst hn hk'
  iintro ⟨#HR, HO, Ht, #HF⟩ Hk
  ihave #HI := (recs_cell xs ws K S (prv j c) (crd j)) $$ HR
  ihave #Hr := (recs_reached xs ws K S (prv j c) (crd j)) $$ HR
  iapply (Rounds.wp_signal 𝒱₀ ER (ringRd xs ws) (c : Thread nD τ) none (dst := (prv j c : Thread nD τ)) (sem := (crA j).sem) (κ := K (prv j c, crd j))
      (r := 0) (d := d) (k' := 1)
      (by show d ∈ (ringRd xs ws).duties (kcell (prv j c) (crd j)) 0; rw [duties_eq]; exact Finset.mem_range.mpr hd)
      (amount_eq xs ws (prv j c) (crd j) 0 d) d O rfl) $$ [HO Ht]
  · isplitr; · iexact HI
    isplitl [HO]; · iexact HO
    isplitl [Ht]; · iexact Ht
    isplitr
    · rw [show (ringRd xs ws).payload ((prv j c : Thread nD τ), .reg (crA j).sem) 0 d = Freed c j (d + 1) from
        (payload_eq xs ws (prv j c) (crd j) 0 d).trans (by show Freed (nxt j (prv j c)) j (d + 1) = _; rw [nxt_prv])]
      iexact HF
    iexact Hr
  iexact Hk

/-- Where device `c` stands at its credit cell after `n` waits: the units it has got, each saying what it says. -/
def Crd (c : Dev nD) (j : Fin 4) (n : ℕ) : sProp 𝕄 :=
  iprop(∃ T : Finset ℕ, ⌜T ⊆ Finset.range 13 ∧ n + (Finset.range 13 \ T).card ≤ 13⌝ ∗ atPos ER (kcell c (crd j)) 0 T n
    ∗ heard (fun d => Freed (nxt j c) j (d + 1)) T)

theorem exists_late (n : ℕ) (T : Finset ℕ) (hn : n < 13) (h : n + 1 + (Finset.range 13 \ T).card ≤ 13) : ∃ d ∈ T, n ≤ d := by
  by_contra hc
  have hsub : Finset.Ico n 13 ⊆ Finset.range 13 \ T := fun x hx => by
    rw [Finset.mem_Ico] at hx
    rw [Finset.mem_sdiff, Finset.mem_range]
    exact ⟨hx.2, fun hT => hc ⟨x, hT, hx.1⟩⟩
  have := Finset.card_le_card hsub
  rw [Nat.card_Ico] at this
  omega

/-- The wait for credit `n`: the neighbour's landing slot is free for hop `n + 2`. -/
theorem step_waitCredit (c : Dev nD) (j : Fin 4) (n b : ℕ) (hn : n < 13) {O : CellTallies nD τ sig ℕ} {W : Waits sig ℕ} {k' : ℕ} (hk' : k' = 1)
    (hb : 2 * (4 * (n + 1) + j.val) + 2 ≤ b) (hO : Above b O) (k : P F) (Q : PUnit → sProp 𝕄) :
    iprop(recs xs ws K S ∗ owes (c : Thread nD τ) O W ∗ Crd c j n ∗ cred (tallyAt (kcell c (crd j)) n 1))
      ⊢ iprop(((∃ W, owes (c : Thread nD τ) O W) ∗ Crd c j (n + 1) ∗ Ready (nxt j c) j (n + 2) -∗ Wp c k Q)
        -∗ Wp c (.op (.semWait (crA j).sem k') fun _ => k) Q) := by
  subst hk'
  unfold Crd
  iintro ⟨#HR, HO, ⟨%T, %hT, Hat, #HT⟩, Hc⟩ Hk
  ihave #HI := (recs_cell xs ws K S c (crd j)) $$ HR
  ihave #Hlev := (recs_lev xs ws K S) $$ HR
  have hM : (levAts L lv : sProp 𝕄) ⊢ MayWait (c : Thread nD τ) (semK (crd j)) n O := mayWait_of (F := F) c (crd j) n b O (by omega) (by show 2 * (4 * (n + 1) + j.val) + 2 ≤ b; exact hb) hO
  ihave #HM := hM $$ Hlev
  iapply (Rounds.wp_wait 𝒱₀ ER (ringRd xs ws) (c : Thread nD τ) none (κ := K (c, crd j)) (sm := .reg (crA j).sem) (k' := 1)
      (wpE_semWait_eq 𝒱₀ (c : Thread nD τ) none Set.univ) (Set.mem_univ _) (cr := Finsupp.single n 1) (O := O) (W := W)
      {(SemLoc.reg (crA j).sem, n)} (R := 0) (m := n) (T := T)
      (by rw [Util.total_single]) (image_single_subset _ n 1)) $$ [HO Hc Hat]
  · isplitr; · iexact HI
    isplitl [Hc]; · iexact Hc
    isplitl [HO]; · iexact HO
    isplitr; · iexact HM
    iexact Hat
  iintro %T' ⟨%hT', HO, Hat, Hpay⟩
  have hd : (ringRd xs ws).duties ((c : Thread nD τ), .reg (crA j).sem) 0 = Finset.range 13 := duties_eq xs ws c (crd j) 0
  have he : (ringRd xs ws).expect ((c : Thread nD τ), .reg (crA j).sem) 0 = 13 := expect_eq xs ws c (crd j) 0
  rw [hd, he] at hT'
  obtain ⟨hsub, hsub', hcard⟩ := hT'
  obtain ⟨d, hdT, hnd⟩ := exists_late n T' hn hcard
  ihave #Hp := (Entails.of_eq (show bigSep (T' \ T) (fun d => (ringRd xs ws).payload ((c : Thread nD τ), .reg (crA j).sem) 0 d)
      = heard (fun d => Freed (nxt j c) j (d + 1)) (T' \ T) from bigSep_congr fun d _ => payload_eq xs ws c (crd j) 0 d)) $$ Hpay
  ihave #HT2 := (Release.heard_union (fun d => Freed (F := F) (nxt j c) j (d + 1))) $$ [HT Hp]
  · isplitr; · iexact HT
    iexact Hp
  rw [Finset.union_sdiff_of_subset hsub]
  ihave #HF := (Release.heard_elim (fun d => Freed (F := F) (nxt j c) j (d + 1)) hdT) $$ HT2
  ihave #HY := (Ready_of_Freed (nxt j c) j (i := d + 1) (h := n + 2) (by omega)) $$ HF
  iapply Hk
  isplitl [HO]; · iexists _; iexact HO
  isplitl [Hat]
  · iexists T'
    isplitr; · ipureintro; exact ⟨hsub', hcard⟩
    isplitl [Hat]; · iexact Hat
    iexact HT2
  iexact HY

end Cert.KernelIdeal.Rings

end
-- ==== Proof.Hop.lean ====
/-
# A hop, and the sixty

`RS c j h` is what device `c` holds on ring `j` before hop `h`. One hop takes it to `RS c j (h + 1)` (`hop_rule`), and the
sixty take all four rings from hop 0 to hop 15 (`hops_rule`).
-/
module

public import proofs.«01_k».proof.Proof.Steps

@[expose] public section

set_option maxRecDepth 8000

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot_release slot_take released_mono USlots heard)

variable {F : FTy → Type} [FloatOps F]

local notation "𝕄" => MT nD τ sig ℕ (Elt F) ℕ UU ℕ

variable (xs : Dev nD → Vec F S4096x256 .i8) (ws : Dev nD → Vec F S256x2048 .i8)
variable (K : Dev nD × Kc → ℕ) (S : Key → ℕ)

/-! ## The two operands in scratch -/

def xPts (c : Dev nD) (f : Vec F S4096x256 .bf16) : sProp 𝕄 := ((c : Thread nD τ).loc cc0_scratch0) ↦{fullShare} (f : (cc0_scratch0 : Ref sig .tc).ty.Contents (Elt F))
def wPts (c : Dev nD) (f : Vec F S256x2048 .bf16) : sProp 𝕄 := ((c : Thread nD τ).loc cc0_scratch1) ↦{fullShare} (f : (cc0_scratch1 : Ref sig .tc).ty.Contents (Elt F))
def xbPts (c : Dev nD) : sProp 𝕄 := xPts c (xbV (xs c))
def wbPts (c : Dev nD) : sProp 𝕄 := wPts c (wbV (ws c))

theorem load_xM (c : Dev nD) (f : Vec F S4096x256 .bf16) (r : Rect S4096x256) {hl : xbM.view.LoadsAt r.toLoadRect} (k : Vec F r.toLoadRect.shape .bf16 → P F) (Q : PUnit → sProp 𝕄) :
    xPts c f ⊢ iprop((xPts c f -∗ Wp c (k (xbM.view.readAt (Elt F) r.toLoadRect f)) Q) -∗ Wp c (.op (.load xbM r.toLoadRect hl) k) Q) :=
  wp_load 𝒱₀ (c : Thread nD τ) none Set.univ (m := xbM) (r := r.toLoadRect) (hl := hl) (f := f) (k := k) (S := Finset.univ) (q := fullShare) (Q := Q) (Finset.subset_univ _)

theorem load_wM (c : Dev nD) (f : Vec F S256x2048 .bf16) (r : Rect S256x2048) {hl : wbM.view.LoadsAt r.toLoadRect} (k : Vec F r.toLoadRect.shape .bf16 → P F) (Q : PUnit → sProp 𝕄) :
    wPts c f ⊢ iprop((wPts c f -∗ Wp c (k (wbM.view.readAt (Elt F) r.toLoadRect f)) Q) -∗ Wp c (.op (.load wbM r.toLoadRect hl) k) Q) :=
  wp_load 𝒱₀ (c : Thread nD τ) none Set.univ (m := wbM) (r := r.toLoadRect) (hl := hl) (f := f) (k := k) (S := Finset.univ) (q := fullShare) (Q := Q) (Finset.subset_univ _)

theorem read_rows (q : Dev nD) (f : Vec F S4096x256 .bf16) (inb : ∀ a, (![256 * q.val, 0] : Fin 2 → ℕ) a + S256x256.size a ≤ S4096x256.size a) :
    xbM.view.readAt (Elt F) (Rect.unit (s := S4096x256) ![256 * q.val, 0] S256x256.size inb).toLoadRect f = fun x => f ((rowR q).emb x) := rfl

theorem read_cols (j : Fin 4) (f : Vec F S256x2048 .bf16) : wbM.view.readAt (Elt F) (colR j).toLoadRect f = fun x => f ((colR j).emb x) := rfl

theorem load_x (c q : Dev nD) (off : Fin 2 → Nat) (hoff : off = ![256 * q.val, 0]) (inb : ∀ a, off a + S256x256.size a ≤ S4096x256.size a)
    {hl} (k : Vec F S256x256 .bf16 → P F) (Q : PUnit → sProp 𝕄) :
    xbPts xs c ⊢ iprop((xbPts xs c -∗ Wp c (k (xrow xs c q)) Q)
      -∗ Wp c (.op (.load xbM (Rect.unit (s := S4096x256) off S256x256.size inb).toLoadRect hl) k) Q) := by
  subst hoff
  have H := load_xM c (xbV (xs c)) (Rect.unit (s := S4096x256) ![256 * q.val, 0] S256x256.size inb) (hl := hl) k Q
  rw [read_rows] at H
  exact H

theorem load_w (c : Dev nD) (j : Fin 4) (k : Vec F S256x512 .bf16 → P F) (Q : PUnit → sProp 𝕄) :
    wbPts ws c ⊢ iprop((wbPts ws c -∗ Wp c (k (wcol ws c j)) Q) -∗ Wp c (loadW j k) Q) := by
  have H := load_wM c (wbV (ws c)) (colR j) (hl := View.loadsAt_vmem h_S256x512) k Q
  rw [read_cols] at H
  exact H

/-! ## A ring's state -/

/-- The send slot of hop `i`, before hop `i`: fresh for the first two hops, with the send of two hops before under way later. -/
def Snd (c : Dev nD) (j : Fin 4) (i : ℕ) : sProp 𝕄 := if i < 2 then sFree c j i else sent c j (i - 2)

/-- The landings to come, the credits to come, the credits to pay. -/
def rcvCred (c : Dev nD) (j : Fin 4) (i : ℕ) : sProp 𝕄 := cred (tallyAt (kcell c (rcv j (sl i))) i N)
def crdCred (c : Dev nD) (j : Fin 4) (n : ℕ) : sProp 𝕄 := cred (tallyAt (kcell c (crd j)) n 1)
def crdTok (c : Dev nD) (j : Fin 4) (d : ℕ) : sProp 𝕄 := dutyTok ER (kcell (prv j c) (crd j)) 0 d

def RS (c : Dev nD) (j : Fin 4) (h : ℕ) : sProp 𝕄 :=
  iprop((Snd c j h ∗ Snd c j (h + 1)) ∗ (Rcv c j (h - 1) ∗ Rcv c j (h - 1 + 1))
    ∗ Freed c j (h - 1) ∗ Freed (nxt j c) j 0
    ∗ Crd c j (h - 2)
    ∗ bigSep (Finset.Ico h 15) (sendToks c j)
    ∗ bigSep (Finset.Ico (h - 1) 15) (rcvCred c j)
    ∗ bigSep (Finset.Ico (h - 2) 13) (crdCred c j)
    ∗ bigSep (Finset.Ico (h - 1) 13) (crdTok c j))

theorem pop (Φ : ℕ → sProp 𝕄) {a b : ℕ} (h : a < b) : bigSep (Finset.Ico a b) Φ = iprop(Φ a ∗ bigSep (Finset.Ico (a + 1) b) Φ) := by
  rw [ico_pop h, bigSep_insert ico_notMem]; rfl

/-- The landing of hop `d` received, read, and its slot freed again. -/
theorem recv_rule (c : Dev nD) (j : Fin 4) (d b : ℕ) (hd : d < 15) {O : CellTallies nD τ sig ℕ} {W : Waits sig ℕ}
    (hb : 2 * (4 * d + j.val) + 3 ≤ b) (hO : Above b O) (k : Vec F S1x256x512 .bf16 → P F) (Q : PUnit → sProp 𝕄) :
    iprop(recs xs ws K S ∗ owes (c : Thread nD τ) O W ∗ Rcv c j d ∗ Freed c j d ∗ rcvCred c j d)
      ⊢ iprop(((∃ W, owes (c : Thread nD τ) O W) ∗ Rcv c j (d + 2) ∗ Freed c j (d + 1) -∗ Wp c (k (toSlot (acc xs ws j d (prv j c)))) Q)
        -∗ Wp c (waitRecv j (sl d) (loadRecv j (sl d) k)) Q) := by
  unfold Freed rcvCred
  iintro ⟨#HR, HO, Hrc, ⟨-, #HF⟩, Hc⟩ Hk
  iapply (step_waitRecv xs ws K S c j d b hd hb hO _ Q) $$ [HO Hrc Hc]
  · isplitr; · iexact HR
    isplitl [HO]; · iexact HO
    isplitl [Hrc]; · iexact Hrc
    iexact Hc
  iintro ⟨HO, Hl⟩
  iapply (step_loadRecv c j d _ k Q) $$ Hl
  iintro Hl
  imod (give_back xs ws K S c j d _) $$ [Hl] with ⟨Hrc, #HY⟩
  · isplitr; · iexact HR
    iexact Hl
  iapply Hk
  isplitl [HO]; · iexact HO
  isplitl [Hrc]; · iexact Hrc
  isplitr; · iexact HF
  iexact HY

/-- The credit of hop `h ≥ 1`, where it pays one. -/
theorem credit_rule (c : Dev nD) (j : Fin 4) (h : Fin 15) (h1 : 1 ≤ h.val) {O : CellTallies nD τ sig ℕ} {W : Waits sig ℕ}
    (k : P F) (Q : PUnit → sProp 𝕄) :
    iprop(recs xs ws K S ∗ owes (c : Thread nD τ) (O + credOwe c j h.val) W ∗ Freed c j h.val ∗ bigSep (Finset.Ico (h.val - 1) 13) (crdTok c j))
      ⊢ iprop((owes (c : Thread nD τ) O W ∗ bigSep (Finset.Ico (h.val + 1 - 1) 13) (crdTok c j) -∗ Wp c k Q) -∗ Wp c (credit c j h k) Q) := by
  unfold credit credOwe
  by_cases h13 : h.val ≤ 13
  · rw [if_pos h13, if_pos ⟨h1, h13⟩, pop (crdTok c j) (show h.val - 1 < 13 by omega), show h.val + 1 - 1 = h.val - 1 + 1 by omega]
    iintro ⟨#HR, HO, #HF, Ht, Hts⟩ Hk
    unfold crdTok
    iapply (step_credit xs ws K S c (srcOf c j) j (h.val - 1) (srcOf_eq c j) (by omega) (k' := (1#32 : BitVec 32).toInt.toNat) (by decide) k Q) $$ [HO Ht]
    · isplitr; · iexact HR
      isplitl [HO]; · iexact HO
      isplitl [Ht]; · iexact Ht
      rw [show h.val - 1 + 1 = h.val by omega]; iexact HF
    iintro HO
    iapply Hk
    isplitl [HO]; · iexact HO
    iexact Hts
  · rw [if_neg h13, if_neg fun h => h13 h.2, add_zero, Finset.Ico_eq_empty (by omega), Finset.Ico_eq_empty (by omega)]
    iintro ⟨-, HO, -, Hts⟩ Hk
    iapply Hk
    isplitl [HO]; · iexact HO
    iexact Hts

/-- Before the send of hop `h ≥ 1`: the slots on both sides are ready. -/
theorem reuse_rule (c : Dev nD) (j : Fin 4) (h : Fin 15) (h1 : 1 ≤ h.val) (b : ℕ) {O : CellTallies nD τ sig ℕ} {W : Waits sig ℕ}
    (hb : 2 * (4 * (h.val - 1) + j.val) + 2 ≤ b) (hO : Above b O) (k : P F) (Q : PUnit → sProp 𝕄) :
    iprop(recs xs ws K S ∗ owes (c : Thread nD τ) O W ∗ Snd c j h.val ∗ Freed (nxt j c) j 0 ∗ Crd c j (h.val - 2)
        ∗ bigSep (Finset.Ico (h.val - 2) 13) (crdCred c j))
      ⊢ iprop(((∃ W, owes (c : Thread nD τ) O W) ∗ sFree c j h.val ∗ Ready (nxt j c) j h.val ∗ Crd c j (h.val + 1 - 2)
          ∗ bigSep (Finset.Ico (h.val + 1 - 2) 13) (crdCred c j) -∗ Wp c k Q) -∗ Wp c (reuse j h k) Q) := by
  unfold reuse Snd
  by_cases h2 : 2 ≤ h.val
  · rw [if_pos h2, if_neg (by omega), pop (crdCred c j) (show h.val - 2 < 13 by omega), show h.val + 1 - 2 = h.val - 2 + 1 by omega]
    iintro ⟨#HR, HO, Hs, -, Hcr, Hc, Hcs⟩ Hk
    have hsl : slotOf h = sl (h.val - 2) := by
      have := sl_add_two (h.val - 2)
      rw [Nat.sub_add_cancel h2] at this; exact this
    rw [hsl]
    iapply (step_waitSend xs ws K S c j (h.val - 2) (by omega) (fun g i hp => ⟨(hO g i hp).1, lt_of_le_of_lt (Nat.zero_le b) (hO g i hp).2⟩) _ Q) $$ [HO Hs]
    · isplitr; · iexact HR
      isplitl [HO]; · iexact HO
      iexact Hs
    rw [Nat.sub_add_cancel h2]
    iintro ⟨⟨%W', HO⟩, Hf⟩
    unfold crdCred
    iapply (step_waitCredit xs ws K S c j (h.val - 2) b (by omega) (k' := (1#32 : BitVec 32).toInt.toNat) (by decide) (by omega) hO k Q) $$ [HO Hcr Hc]
    · isplitr; · iexact HR
      isplitl [HO]; · iexact HO
      isplitl [Hcr]; · iexact Hcr
      iexact Hc
    rw [Nat.sub_add_cancel h2]
    iintro ⟨HO, Hcr, #HY⟩
    iapply Hk
    isplitl [HO]; · iexact HO
    isplitl [Hf]; · iexact Hf
    isplitr; · iexact HY
    isplitl [Hcr]; · iexact Hcr
    iexact Hcs
  · rw [if_neg h2, if_pos (by omega), show h.val + 1 - 2 = h.val - 2 by omega]
    iintro ⟨#HR, HO, Hf, #HF, Hcr, Hcs⟩ Hk
    ihave #HY := (Ready_of_Freed (nxt j c) j (i := 0) (h := h.val) (by omega)) $$ HF
    iapply Hk
    isplitl [HO]; · iexists _; iexact HO
    isplitl [Hf]; · iexact Hf
    isplitr; · iexact HY
    isplitl [Hcr]; · iexact Hcr
    iexact Hcs

/-- One hop. -/
theorem hop_rule (c : Dev nD) (t : ℕ) (ht : t < 60) (h : Fin 15) (hh : h.val = t / 4) {W : Waits sig ℕ} (k : P F) (Q : PUnit → sProp 𝕄) :
    iprop(recs xs ws K S ∗ owes (c : Thread nD τ) (owed c t) W ∗ RS c (rg t) h.val ∗ xbPts xs c ∗ wbPts ws c)
      ⊢ iprop(((∃ W, owes (c : Thread nD τ) (owed c (t + 1)) W) ∗ RS c (rg t) (h.val + 1) ∗ xbPts xs c ∗ wbPts ws c -∗ Wp c k Q)
        -∗ Wp c (hop c (rg t) h k) Q) := by
  have hrg : (rg t).val = t % 4 := rfl
  have ho : owed c t = (owed c (t + 1) + copyOwe c (rg t) h.val) + credOwe c (rg t) h.val := by rw [owed_step c ht, hh]
  have hA : Above (2 * t + 1) (owed c (t + 1) + copyOwe c (rg t) h.val) := by
    rw [hh]; exact (above_owed c (by omega)).add (above_copy c ht (by omega))
  unfold hop RS
  rw [pop (sendToks c (rg t)) h.isLt]
  iintro ⟨#HR, HO, ⟨⟨Hs, Hs'⟩, ⟨Hr, Hr'⟩, #HF, #HN, Hcr, ⟨Ht, Hts⟩, Hrc, Hcc, Hct⟩, Hx, Hw⟩ Hk
  iapply (load_x xs c _ _ (off1_eq c (rg t) h) _ _ Q) $$ Hx
  iintro Hx
  iapply (load_w ws c (rg t) _ Q) $$ Hw
  iintro Hw
  by_cases h1 : 1 ≤ h.val
  · obtain ⟨d, hd⟩ : ∃ d, h.val = d + 1 := ⟨h.val - 1, by omega⟩
    rw [if_pos h1]
    ihave Hrc := (Entails.of_eq (pop (rcvCred c (rg t)) (show h.val - 1 < 15 by omega))) $$ Hrc
    icases Hrc with ⟨Hrc, Hrcs⟩
    iapply (recv_rule xs ws K S c (rg t) (h.val - 1) (2 * t + 1) (by omega) (by omega) (above_owed c (t := t) (by omega)) _ Q) $$ [HO Hr Hrc]
    · isplitr; · iexact HR
      isplitl [HO]; · iexact HO
      isplitl [Hr]; · iexact Hr
      isplitr; · iexact HF
      iexact Hrc
    rw [Nat.sub_add_cancel h1, show h.val - 1 + 2 = h.val + 1 by omega]
    iintro ⟨⟨%W1, HO⟩, Hr, #HF'⟩
    rw [ho]
    iapply (credit_rule xs ws K S c (rg t) h h1 _ Q) $$ [HO Hct]
    · isplitr; · iexact HR
      isplitl [HO]; · iexact HO
      isplitr; · iexact HF'
      iexact Hct
    iintro ⟨HO, Hct⟩
    iapply (reuse_rule xs ws K S c (rg t) h h1 (2 * t + 1) (by omega)
 hA _ Q) $$ [HO Hs Hcr Hcc]
    · isplitr; · iexact HR
      isplitl [HO]; · iexact HO
      isplitl [Hs]; · iexact Hs
      isplitr; · iexact HN
      isplitl [Hcr]; · iexact Hcr
      iexact Hcc
    iintro ⟨⟨%W2, HO⟩, Hs, #HY, Hcr, Hcc⟩
    iapply (step_send xs ws K S c (rg t) h k Q _ (by
      rw [ofSlot_toSlot, hd]; rfl)) $$ [HO Hs Ht]
    · isplitr; · iexact HR
      isplitl [HO]; · iexact HO
      isplitl [Hs]; · iexact Hs
      isplitr; · iexact HY
      iexact Ht
    iintro ⟨HO, Hs⟩
    iapply Hk
    rw [show h.val + 1 - 1 = h.val by omega]
    isplitl [HO]; · iexists _; iexact HO
    isplitr [Hx Hw]
    · isplitl [Hs Hs']
      · isplitl [Hs']; · iexact Hs'
        unfold Snd
        rw [if_neg (by omega)]; iexact Hs
      isplitl [Hr Hr']
      · isplitl [Hr']; · iexact Hr'
        iexact Hr
      isplitr; · iexact HF'
      isplitr; · iexact HN
      isplitl [Hcr]; · iexact Hcr
      isplitl [Hts]; · iexact Hts
      isplitl [Hrcs]; · iexact Hrcs
      isplitl [Hcc]; · iexact Hcc
      iexact Hct
    isplitl [Hx]; · iexact Hx
    iexact Hw
  · rw [if_neg h1]
    have h0 : h.val = 0 := by omega
    rw [ho, show credOwe c (rg t) h.val = 0 from if_neg fun h => h1 h.1, add_zero]
    ihave #HY := (Ready_of_Freed (nxt (rg t) c) (rg t) (i := 0) (h := h.val) (by omega)) $$ HN
    ihave Hs := (Entails.of_eq (show Snd c (rg t) h.val = sFree c (rg t) h.val from if_pos (by omega))) $$ Hs
    iapply (step_send xs ws K S c (rg t) h k Q _ (by rw [h0]; rfl)) $$ [HO Hs Ht]
    · isplitr; · iexact HR
      isplitl [HO]; · iexact HO
      isplitl [Hs]; · iexact Hs
      isplitr; · iexact HY
      iexact Ht
    iintro ⟨HO, Hs⟩
    iapply Hk
    rw [show h.val + 1 - 1 = h.val - 1 by omega, show h.val + 1 - 2 = h.val - 2 by omega]
    isplitl [HO]; · iexists _; iexact HO
    isplitr [Hx Hw]
    · isplitl [Hs Hs']
      · isplitl [Hs']; · iexact Hs'
        unfold Snd
        rw [if_neg (by omega)]; iexact Hs
      isplitl [Hr Hr']
      · isplitl [Hr]; · iexact Hr
        iexact Hr'
      isplitr; · iexact HF
      isplitr; · iexact HN
      isplitl [Hcr]; · iexact Hcr
      isplitl [Hts]; · iexact Hts
      isplitl [Hrc]; · iexact Hrc
      isplitl [Hcc]; · iexact Hcc
      iexact Hct
    isplitl [Hx]; · iexact Hx
    iexact Hw

/-- The four rings before the `t`-th hop of the sixty. -/
def RSs (c : Dev nD) (t : ℕ) : sProp 𝕄 := bigSep Finset.univ fun j : Fin 4 => RS c j ((t + 3 - j.val) / 4)

/-- Only ring `rg t` moves at the `t`-th hop. -/
theorem RSs_split (c : Dev nD) (t : ℕ) : (RSs c t : sProp 𝕄)
    = iprop(RS c (rg t) (t / 4) ∗ bigSep (Finset.univ.erase (rg t)) fun j : Fin 4 => RS c j ((t + 3 - j.val) / 4)) := by
  unfold RSs
  rw [bigSep_univ_split (rg t)]
  have : (t + 3 - (rg t).val) / 4 = t / 4 := by simp only [rg]; omega
  rw [this]; rfl
theorem RSs_join (c : Dev nD) (t : ℕ) : (RSs c (t + 1) : sProp 𝕄)
    = iprop(RS c (rg t) (t / 4 + 1) ∗ bigSep (Finset.univ.erase (rg t)) fun j : Fin 4 => RS c j ((t + 3 - j.val) / 4)) := by
  unfold RSs
  rw [bigSep_univ_split (rg t)]
  have h1 : (t + 1 + 3 - (rg t).val) / 4 = t / 4 + 1 := by simp only [rg]; omega
  rw [h1, bigSep_congr (fun (j : Fin 4) hj => show (RS c j ((t + 1 + 3 - j.val) / 4) : sProp 𝕄) = RS c j ((t + 3 - j.val) / 4) from by
    have hne : j.val ≠ t % 4 := fun h => (Finset.mem_erase.mp hj).1 (Fin.ext h)
    have := j.isLt
    rw [show (t + 1 + 3 - j.val) / 4 = (t + 3 - j.val) / 4 by omega])]
  rfl

/-- What is held before the `t`-th hop. -/
def At (c : Dev nD) (t : ℕ) : sProp 𝕄 :=
  iprop(recs xs ws K S ∗ (∃ W, owes (c : Thread nD τ) (owed c t) W) ∗ RSs c t ∗ xbPts xs c ∗ wbPts ws c)

/-- The first `n` hops. -/
theorem hops_rule (c : Dev nD) (Q : PUnit → sProp 𝕄) : ∀ (n : ℕ) (hn : n ≤ 60) (k : P F) (R : sProp 𝕄),
    (iprop(At xs ws K S c n ∗ R) ⊢ Wp c k Q) → iprop(At xs ws K S c 0 ∗ R) ⊢ Wp c (hops c n hn k) Q
  | 0, _, k, R, hk => hk
  | n + 1, hn, k, R, hk => hops_rule c Q n (Nat.le_of_succ_le hn) _ R <| by
    unfold At
    iintro ⟨⟨#HR, ⟨%W, HO⟩, Hs, Hx, Hw⟩, HRR⟩
    ihave Hs := (Entails.of_eq (RSs_split c n)) $$ Hs
    icases Hs with ⟨Hj, Hs⟩
    iapply (hop_rule xs ws K S c n (Nat.lt_of_succ_le hn) ⟨n / 4, Nat.div_lt_of_lt_mul (Nat.lt_of_succ_le hn)⟩ rfl k Q) $$ [HO Hj Hx Hw]
    · isplitr; · iexact HR
      isplitl [HO]; · iexact HO
      isplitl [Hj]; · iexact Hj
      isplitl [Hx]; · iexact Hx
      iexact Hw
    iintro ⟨HO, Hj, Hx, Hw⟩
    iapply hk
    unfold At
    isplitr [HRR]
    · isplitr; · iexact HR
      isplitl [HO]; · iexact HO
      isplitl [Hj Hs]
      · iapply (Entails.of_eq (RSs_join c n).symm)
        isplitl [Hj]; · iexact Hj
        iexact Hs
      isplitl [Hx]; · iexact Hx
      iexact Hw
    iexact HRR

end Cert.KernelIdeal.Rings

end
-- ==== Proof.Finish.lean ====
/-
# The end of the body

`finish_rule`: ring `j`'s last landing is received, its block of the result stored, its last two sends waited for.
`close_rule`: after that the ring's cells close, all at zero, and the device has its send and landing slots again.
-/
module

public import proofs.«01_k».proof.Proof.Hop
public import Idealize.ShloMosaic.Lib.Ring

@[expose] public section

set_option maxRecDepth 8000

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot_release slot_take released_mono USlots heard)

variable {F : FTy → Type} [FloatOps F]

local notation "𝕄" => MT nD τ sig ℕ (Elt F) ℕ UU ℕ

variable (xs : Dev nD → Vec F S4096x256 .i8) (ws : Dev nD → Vec F S256x2048 .i8)
variable (K : Dev nD × Kc → ℕ) (S : Key → ℕ) (a b : F .f32)

/-! ## The result's buffer -/

def oPts (c : Dev nD) (f : Vec F S256x2048 .f32) : sProp 𝕄 := ((c : Thread nD τ).loc cc0_stg4_0) ↦{fullShare} (f : (cc0_stg4_0 : Ref sig .tc).ty.Contents (Elt F))

theorem load_oM (c : Dev nD) (f : Vec F S256x2048 .f32) (r : Rect S256x2048) {hl : oM.view.LoadsAt r.toLoadRect} (k : Vec F r.toLoadRect.shape .f32 → P F) (Q : PUnit → sProp 𝕄) :
    oPts c f ⊢ iprop((oPts c f -∗ Wp c (k (oM.view.readAt (Elt F) r.toLoadRect f)) Q) -∗ Wp c (.op (.load oM r.toLoadRect hl) k) Q) :=
  wp_load 𝒱₀ (c : Thread nD τ) none Set.univ (m := oM) (r := r.toLoadRect) (hl := hl) (f := f) (k := k) (S := Finset.univ) (q := fullShare) (Q := Q) (Finset.subset_univ _)

theorem store_oM (c : Dev nD) (f : Vec F S256x2048 .f32) (r : Rect S256x2048) (w : Vec F r.shape .f32) {hx : (oM.access r).Stores Finset.univ} {hm} (k : P F) (Q : PUnit → sProp 𝕄) :
    oPts c f ⊢ iprop((oPts c ((oM.access r).write (Elt F) f w Finset.univ) -∗ Wp c k Q) -∗ Wp c (.op (.store oM r w Finset.univ hx hm) fun _ => k) Q) :=
  wp_store 𝒱₀ (c : Thread nD τ) none Set.univ (m := oM) (r := r) (f := f) (w := w) (Mk := Finset.univ) (hx := hx) (hm := hm) (k := fun _ => k) (Q := Q) (S := Finset.univ) (Finset.subset_univ _)

theorem write_same (f : Vec F S256x2048 .f32) (r : Rect S256x2048) (w : Vec F r.shape .f32) (x : r.shape.Idx) :
    (oM.access r).write (Elt F) f w Finset.univ (r.emb x) = w x :=
  View.write_emb_of_mem (v := oM.access r) f w (Finset.mem_univ x)
theorem write_other (f : Vec F S256x2048 .f32) (r : Rect S256x2048) (w : Vec F r.shape .f32) (y : S256x2048.Idx) (hy : y ∉ r.set) :
    (oM.access r).write (Elt F) f w Finset.univ y = f y :=
  View.write_of_not_mem (v := oM.access r) f w Finset.univ (by
    intro h; apply hy
    have h' : y ∈ (View.slice (View.whole cc0_stg4_0) r).set := h
    rwa [View.set_slice_whole] at h')

theorem emb_mem {s : Shape} (r : Rect s) (x : r.shape.Idx) : r.emb x ∈ r.set := by
  rw [← Rect.map_emb_univ]; exact Finset.mem_map_of_mem _ (Finset.mem_univ x)

theorem cols_disjoint (j j' : Fin 4) (h : j ≠ j') : Disjoint (colR j).set (colR j').set :=
  Ring.lead_disjoint (s := S256x2048) (1 : Fin 2) 512 (fun j : Fin 4 => ![0, 512 * j.val]) S256x512.size inb_col (fun _ => rfl) rfl j j' h

/-- The blocks of the first `n` rings are stored. -/
def Out (c : Dev nD) (n : ℕ) : sProp 𝕄 :=
  iprop(∃ f, ⌜∀ j : Fin 4, j.val < n → ∀ x, f ((colR j).emb x) = result xs ws a b j c x⌝ ∗ oPts c f)

/-- Ring `j` after the end of the body. -/
def Fin' (c : Dev nD) (j : Fin 4) : sProp 𝕄 :=
  iprop((sFree c j 15 ∗ sFree c j 16) ∗ (Rcv c j 15 ∗ Rcv c j 16) ∗ Freed c j 15 ∗ Crd c j 13)

theorem finish_rule (c : Dev nD) (j : Fin 4) {W : Waits sig ℕ} (k : P F) (Q : PUnit → sProp 𝕄) :
    iprop(recs xs ws K S ∗ owes (c : Thread nD τ) 0 W ∗ RS c j 15 ∗ xbPts xs c ∗ wbPts ws c ∗ Out xs ws a b c j.val)
      ⊢ iprop(((∃ W, owes (c : Thread nD τ) 0 W) ∗ Fin' c j ∗ xbPts xs c ∗ wbPts ws c ∗ Out xs ws a b c (j.val + 1) -∗ Wp c k Q)
        -∗ Wp c (finish c (Scalar.mulf a b) j k) Q) := by
  unfold finish RS
  iintro ⟨#HR, HO, ⟨⟨Hs, Hs'⟩, ⟨Hr, Hr'⟩, #HF, -, Hcr, -, Hrc, -, -⟩, Hx, Hw, Hout⟩ Hk
  ihave Hrc := (Entails.of_eq ((pop (rcvCred (F := F) c j) (show 15 - 1 < 15 by omega)))) $$ Hrc
  icases Hrc with ⟨Hrc, -⟩
  ihave Hrc := (Entails.of_eq (show rcvCred c j (15 - 1) = (cred (tallyAt (kcell c (rcv j (sl 14))) 14 N) : sProp 𝕄) from rfl)) $$ Hrc
  iapply (step_waitRecv xs ws K S c j 14 (2 * (4 * 14 + j.val) + 3) (by omega) (le_refl _) (Above.zero _) _ Q) $$ [HO Hr Hrc]
  · isplitr; · iexact HR
    isplitl [HO]; · iexact HO
    isplitl [Hr]; · iexact Hr
    iexact Hrc
  iintro ⟨⟨%W1, HO⟩, Hl⟩
  iapply (load_x xs c _ _ (off2_eq c) _ _ Q) $$ Hx
  iintro Hx
  iapply (load_w ws c j _ Q) $$ Hw
  iintro Hw
  iapply (step_loadRecv c j 14 _ _ Q) $$ Hl
  iintro Hl
  imod (give_back xs ws K S c j 14 _) $$ [Hl] with ⟨Hr, #HY⟩
  · isplitr; · iexact HR
    iexact Hl
  unfold Out
  icases Hout with ⟨%f, %hf, Hout⟩
  iapply (load_oM c f (colR j) _ Q) $$ Hout
  iintro Hout
  iapply (store_oM c f (colR j) _ _ Q) $$ Hout
  iintro Hout
  ihave Hs := (Entails.of_eq (show Snd c j 15 = sent c j 13 from if_neg (by omega))) $$ Hs
  ihave Hs' := (Entails.of_eq (show Snd c j (15 + 1) = sent c j 14 from if_neg (by omega))) $$ Hs'
  iapply (step_waitSend xs ws K S c j 13 (by omega) (Above.zero _) _ Q) $$ [HO Hs]
  · isplitr; · iexact HR
    isplitl [HO]; · iexact HO
    iexact Hs
  iintro ⟨⟨%W2, HO⟩, Hs⟩
  iapply (step_waitSend xs ws K S c j 14 (by omega) (Above.zero _) _ Q) $$ [HO Hs']
  · isplitr; · iexact HR
    isplitl [HO]; · iexact HO
    iexact Hs'
  iintro ⟨⟨%W3, HO⟩, Hs'⟩
  iapply Hk
  isplitl [HO]; · iexists _; iexact HO
  isplitl [Hs Hs' Hr Hr' Hcr]
  · unfold Fin'
    isplitl [Hs Hs']
    · isplitl [Hs]; · iexact Hs
      iexact Hs'
    isplitl [Hr Hr']
    · isplitl [Hr']; · iexact Hr'
      iexact Hr
    isplitr
    · unfold Freed
      icases HF with ⟨-, #H15⟩
      isplitr; · iexact H15
      iexact HY
    iexact Hcr
  isplitl [Hx]; · iexact Hx
  isplitl [Hw]; · iexact Hw
  iexists _
  isplitr [Hout]
  rotate_left; · iexact Hout
  ipureintro
  intro j' hj' x
  by_cases h : j' = j
  · subst h
    exact write_same f (colR j') _ x
  · rw [write_other f (colR j) _ _ (Finset.disjoint_left.mp (cols_disjoint j' j h) (emb_mem (colR j') x))]
    exact hf j' (by have : j'.val ≠ j.val := fun e => h (Fin.ext e); omega) x

/-! ## A slot buffer whole and in its two slots -/

/-- A buffer at any contents. -/
def bufAny (c : Dev nD) (M : Memref sig .tc .vmem S2x256x512 .bf16) : sProp 𝕄 :=
  iprop(∃ f : Buf (Elt F) (M.view.loc (c : Thread nD τ)), M.view.loc (c : Thread nD τ) ↦{fullShare} f)

/-- The elements of slot `s`. -/
def slotSet (M : Memref sig .tc .vmem S2x256x512 .bf16) (s : Fin 2) : Finset M.view.ty.Idx := (slotR s).set.map M.view.emb

theorem slotPts_eq (c : Dev nD) (M : Memref sig .tc .vmem S2x256x512 .bf16) (s : Fin 2) (f : Buf (Elt F) (M.view.loc (c : Thread nD τ))) :
    slotPts c M s f = (M.view.loc (c : Thread nD τ) ↦[slotSet M s]{fullShare} f : sProp 𝕄) :=
  congrArg (fun J : Finset (Idx (M.view.loc (c : Thread nD τ))) => (M.view.loc (c : Thread nD τ) ↦[J]{fullShare} f : sProp 𝕄))
    ((slot_set M s).trans (View.set_slice (v := M.view) (slotR s)))

theorem slots_disjoint (M : Memref sig .tc .vmem S2x256x512 .bf16) (s s' : Fin 2) (h : s ≠ s') : Disjoint (slotSet M s) (slotSet M s') := by
  unfold slotSet
  rw [Finset.disjoint_map]
  exact Ring.lead_disjoint (s := S2x256x512) (0 : Fin 3) 1 (fun s : Fin 2 => ![s.val, 0, 0]) S1x256x512.size inb_slot (fun s => (Nat.one_mul _).symm) rfl s s' h

theorem slots_cover (M : Memref sig .tc .vmem S2x256x512 .bf16) (hM : M.IsWhole) : Finset.univ.biUnion (slotSet M) = Finset.univ := by
  have hc := Ring.lead_cover (s := S2x256x512) (0 : Fin 3) 1 (fun s : Fin 2 => ![s.val, 0, 0]) S1x256x512.size inb_slot
    (fun s => (Nat.one_mul _).symm) (fun s a ha => by fin_cases a <;> first | exact absurd rfl ha | rfl) rfl
    (fun a ha => by fin_cases a <;> first | exact absurd rfl ha | rfl) rfl
  refine Finset.eq_univ_of_forall fun i => ?_
  obtain ⟨y, -, rfl⟩ := Finset.mem_map.mp (hM.set_eq_univ ▸ Finset.mem_univ i : i ∈ M.view.set)
  have hy : y ∈ Finset.univ.biUnion (fun s : Fin 2 => (slotR s).set) := by rw [hc]; exact Finset.mem_univ y
  obtain ⟨s, -, hs⟩ := Finset.mem_biUnion.mp hy
  exact Finset.mem_biUnion.mpr ⟨s, Finset.mem_univ s, Finset.mem_map_of_mem _ hs⟩

theorem slotAny_eq (c : Dev nD) (M : Memref sig .tc .vmem S2x256x512 .bf16) (s : Fin 2) :
    slotAny c M s = (iprop(∃ f : Buf (Elt F) (M.view.loc (c : Thread nD τ)), M.view.loc (c : Thread nD τ) ↦[slotSet M s]{fullShare} f) : sProp 𝕄) :=
  congrArg BIBase.exists (funext fun f => slotPts_eq c M s f)

theorem slots_split (c : Dev nD) (M : Memref sig .tc .vmem S2x256x512 .bf16) (hM : M.IsWhole) :
    bufAny c M ⊢ (iprop(slotAny c M 0 ∗ slotAny c M 1) : sProp 𝕄) := by
  rw [slotAny_eq, slotAny_eq]
  exact Ring.slots2_split (ℓ := M.view.loc (c : Thread nD τ)) (slotSet M) (slots_disjoint M) (slots_cover M hM) (q := fullShare) _ _
    (fun _ => rfl) (fun _ => rfl)

theorem slots_join (c : Dev nD) (M : Memref sig .tc .vmem S2x256x512 .bf16) (hM : M.IsWhole) :
    iprop(slotAny c M 0 ∗ slotAny c M 1) ⊢ (bufAny c M : sProp 𝕄) := by
  rw [slotAny_eq, slotAny_eq]
  exact Ring.slots2_join (ℓ := M.view.loc (c : Thread nD τ)) (slotSet M) (slots_disjoint M) (slots_cover M hM) (q := fullShare) _ _
    (fun _ => rfl) (fun _ => rfl)

/-! ## The cells closed -/

theorem after_end {i r : ℕ} (hr : i / 2 ≤ r) : sl (i + 2 * (r - i / 2)) = sl i ∧ (i + 2 * (r - i / 2)) / 2 = r :=
  ⟨by unfold sl; exact Fin.ext (by simp only; omega), by omega⟩

theorem close_snd (c : Dev nD) (j : Fin 4) (i : ℕ) (hi : 15 ≤ i) :
    iprop(recs xs ws K S ∗ atPos ER (kcell c (snd j (sl i))) (i / 2) ∅ 0) ⊢ iprop(|={Set.univ}=> semVal (kcell c (snd j (sl i))) 0) := by
  iintro ⟨#HR, H⟩
  iapply (Rounds.cell_close ER (ringRd xs ws) (Set.mem_univ (K (c, snd j (sl i)))) (fun h => h) (R := i / 2) (fun r hr => by
    rw [duties_eq]
    obtain ⟨h1, h2⟩ := after_end hr
    rw [← h1]
    exact (congrArg _ h2.symm).trans (duties_snd_end j _ (by omega))))
  isplitr
  · iapply (recs_cell xs ws K S c (snd j (sl i))); iexact HR
  iexact H

theorem close_rcv (c : Dev nD) (j : Fin 4) (i : ℕ) (hi : 15 ≤ i) :
    iprop(recs xs ws K S ∗ atPos ER (kcell c (rcv j (sl i))) (i / 2) ∅ 0) ⊢ iprop(|={Set.univ}=> semVal (kcell c (rcv j (sl i))) 0) := by
  iintro ⟨#HR, H⟩
  iapply (Rounds.cell_close ER (ringRd xs ws) (Set.mem_univ (K (c, rcv j (sl i)))) (fun h => h) (R := i / 2) (fun r hr => by
    rw [duties_eq]
    obtain ⟨h1, h2⟩ := after_end hr
    rw [← h1]
    exact (congrArg _ h2.symm).trans (duties_rcv_end j _ (by omega))))
  isplitr
  · iapply (recs_cell xs ws K S c (rcv j (sl i))); iexact HR
  iexact H

theorem close_crd (c : Dev nD) (j : Fin 4) :
    iprop(recs xs ws K S ∗ Crd c j 13) ⊢ iprop(|={Set.univ}=> semVal (kcell c (crd j)) 0) := by
  unfold Crd
  iintro ⟨#HR, ⟨%T, %hT, H, -⟩⟩
  ihave #HI := (recs_cell xs ws K S c (crd j)) $$ HR
  have hsub : Finset.range 13 ⊆ T := Finset.sdiff_eq_empty_iff_subset.mp (Finset.card_eq_zero.mp (by omega))
  imod (fupd_skip ER (ringRd xs ws) (g := kcell c (crd j)) (R := 0) (m := 13) (T := T) (by rw [duties_eq]; exact hsub) (by rw [expect_eq]; rfl) (Set.mem_univ (K (c, crd j)))) $$ [H] with ⟨H, -⟩
  · isplitr; · iexact HI
    iexact H
  iapply (Rounds.cell_close ER (ringRd xs ws) (Set.mem_univ (K (c, crd j))) (fun h => h) (R := 0 + 1) (fun r hr => by
    rw [duties_eq]; exact if_neg (by omega)))
  isplitr; · iexact HI
  iexact H

theorem close_bar (c : Dev nD) :
    iprop(recs xs ws K S ∗ atPos ER (kcell c bar) 1 ∅ 0) ⊢ iprop(|={Set.univ}=> semVal (kcell c bar) 0) := by
  iintro ⟨#HR, H⟩
  iapply (Rounds.cell_close ER (ringRd xs ws) (Set.mem_univ (K (c, bar))) (fun h => h) (R := 1) (fun r hr => by
    rw [duties_eq]; exact if_neg (by omega)))
  isplitr
  · iapply (recs_cell xs ws K S c bar); iexact HR
  iexact H

/-- What a device keeps to take its landing slots back at the end. -/
def kept (c : Dev nD) (j : Fin 4) : sProp 𝕄 :=
  iprop(writeTok ES (c, j, sl 15) (15 / 2 + 1) ∗ writeTok ES (c, j, sl 16) (16 / 2 + 1))

/-- The five cells of ring `j` on device `c`, at zero. -/
def zeros (c : Dev nD) (j : Fin 4) : sProp 𝕄 :=
  iprop(semVal (kcell c (snd j 0)) 0 ∗ semVal (kcell c (snd j 1)) 0 ∗ semVal (kcell c (rcv j 0)) 0 ∗ semVal (kcell c (rcv j 1)) 0
    ∗ semVal (kcell c (crd j)) 0)

theorem take_back (c : Dev nD) (j : Fin 4) (i : ℕ) :
    iprop(recs xs ws K S ∗ Ready c j i ∗ writeTok ES (c, j, sl i) (i / 2 + 1)) ⊢ iprop(|={Set.univ}=> slotAny c (rbM j) (sl i)) := by
  unfold Ready
  iintro ⟨#HR, ⟨#Hrel, -⟩, H⟩
  iapply (slot_take ES (Set.mem_univ (S (c, j, sl i))) (i / 2 + 1))
  isplitr
  · iapply (recs_slot xs ws K S c j (sl i)); iexact HR
  isplitr; · iexact Hrel
  iexact H

theorem close_rule (c : Dev nD) (j : Fin 4) :
    iprop(recs xs ws K S ∗ Fin' c j ∗ kept c j) ⊢ iprop(|={Set.univ}=> ((bufAny c (sbM j) ∗ bufAny c (rbM j)) ∗ zeros c j)) := by
  unfold Fin' kept sFree Rcv Freed
  iintro ⟨#HR, ⟨⟨⟨Hs1, Ha1, -⟩, Hs0, Ha0, -⟩, ⟨⟨Hb1, -⟩, Hb0, -⟩, ⟨#HY1, #HY0⟩, Hcr⟩, Hk1, Hk0⟩
  imod (close_snd xs ws K S c j 15 (by omega)) $$ [Ha1] with Hz1
  · isplitr; · iexact HR
    iexact Ha1
  imod (close_snd xs ws K S c j 16 (by omega)) $$ [Ha0] with Hz0
  · isplitr; · iexact HR
    iexact Ha0
  imod (close_rcv xs ws K S c j 15 (by omega)) $$ [Hb1] with Hw1
  · isplitr; · iexact HR
    iexact Hb1
  imod (close_rcv xs ws K S c j 16 (by omega)) $$ [Hb0] with Hw0
  · isplitr; · iexact HR
    iexact Hb0
  imod (close_crd xs ws K S c j) $$ [Hcr] with Hcz
  · isplitr; · iexact HR
    iexact Hcr
  imod (take_back xs ws K S c j 15) $$ [Hk1] with Hr1
  · isplitr; · iexact HR
    isplitr; · iexact HY1
    iexact Hk1
  imod (take_back xs ws K S c j 16) $$ [Hk0] with Hr0
  · isplitr; · iexact HR
    isplitr; · iexact HY0
    iexact Hk0
  imodintro
  isplitl [Hs1 Hs0 Hr1 Hr0]
  · isplitl [Hs1 Hs0]
    · iapply (slots_join c (sbM j) (sbM_whole j))
      isplitl [Hs0]; · iexact Hs0
      iexact Hs1
    · iapply (slots_join c (rbM j) (rbM_whole j))
      isplitl [Hr0]; · iexact Hr0
      iexact Hr1
  unfold zeros
  isplitl [Hz0]; · iexact Hz0
  isplitl [Hz1]; · iexact Hz1
  isplitl [Hw0]; · iexact Hw0
  isplitl [Hw1]; · iexact Hw1
  iexact Hcz

end Cert.KernelIdeal.Rings

end
-- ==== Proof.Body.lean ====
/-
# The body

The entry handshake and the two casts (`prologue_rule`), the end (`epilogue_rule`), and the whole body (`body_rule`): from
what the launch deals a device to its result block stored, every cell at zero and every buffer back.
-/
module

public import proofs.«01_k».proof.Proof.Finish

@[expose] public section

set_option maxRecDepth 8000

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok slot_release slot_take released_mono USlots heard)

variable {F : FTy → Type} [FloatOps F]

local notation "𝕄" => MT nD τ sig ℕ (Elt F) ℕ UU ℕ

variable (xs : Dev nD → Vec F S4096x256 .i8) (ws : Dev nD → Vec F S256x2048 .i8)
variable (K : Dev nD × Kc → ℕ) (S : Key → ℕ) (a b : F .f32)

/-! ## Before the first hop -/

/-- What the launch deals device `c` for ring `j`: its places at its cells, its counts of landings, the tokens it pays with. -/
def ringGhost (c : Dev nD) (j : Fin 4) : sProp 𝕄 :=
  iprop((atPos ER (kcell c (snd j 0)) 0 ∅ 0 ∗ atPos ER (kcell c (snd j 1)) 0 ∅ 0)
    ∗ (atPos ER (kcell c (rcv j 0)) 0 ∅ 0 ∗ atPos ER (kcell c (rcv j 1)) 0 ∅ 0) ∗ atPos ER (kcell c (crd j)) 0 ∅ 0
    ∗ (readerAt ES (c, j, 0) 0 ∗ readerAt ES (c, j, 1) 0) ∗ kept c j
    ∗ bigSep (Finset.Ico 0 15) (sendToks c j) ∗ bigSep (Finset.Ico 0 13) (crdTok c j))

/-- The credits of its waits on ring `j`. -/
def ringCreds (c : Dev nD) (j : Fin 4) : sProp 𝕄 :=
  iprop(bigSep (Finset.Ico 0 15) (rcvCred c j) ∗ bigSep (Finset.Ico 0 13) (crdCred c j))

/-- A landing slot given over before the first hop. -/
theorem release_first (c : Dev nD) (j : Fin 4) (i : ℕ) (hi : i / 2 = 0) :
    iprop(recs xs ws K S ∗ slotAny c (rbM j) (sl i) ∗ readerAt ES (c, j, sl i) 0)
      ⊢ iprop(|={Set.univ}=> (readerAt ES (c, j, sl i) (i / 2 + 1) ∗ Ready c j i)) := by
  unfold Ready
  rw [hi]
  iintro ⟨#HR, Hs, Hrd⟩
  ihave #HI := (recs_slot xs ws K S c j (sl i)) $$ HR
  ihave #Hr := (recs_reached xs ws K S c (rcv j (sl i))) $$ HR
  imod (slot_release ES (Set.mem_univ (S (c, j, sl i))) (slotAny_excl c j (sl i)) 0) $$ [Hs Hrd] with ⟨Hrd, #Hrel⟩
  · isplitr; · iexact HI
    isplitl [Hrd]; · iexact Hrd
    iexact Hs
  imodintro
  isplitl [Hrd]; · iexact Hrd
  isplitr; · iexact Hrel
  iexact Hr

/-- Ring `j` opened: the landing slots are given over; once the neighbour has done the same the first hop may start. -/
theorem open_rule (c : Dev nD) (j : Fin 4) :
    iprop(recs xs ws K S ∗ bufAny c (sbM j) ∗ bufAny c (rbM j) ∗ ringGhost c j ∗ ringCreds c j)
      ⊢ iprop(|={Set.univ}=> (Freed c j 0 ∗ kept c j ∗ (Freed (nxt j c) j 0 -∗ RS c j 0))) := by
  unfold ringGhost ringCreds
  iintro ⟨#HR, Hsb, Hrb, ⟨⟨Ha0, Ha1⟩, ⟨Hb0, Hb1⟩, Hcr, ⟨Hr0, Hr1⟩, Hk, Ht, Hct⟩, Hrc, Hcc⟩
  ihave Hsb := (slots_split c (sbM j) (sbM_whole j)) $$ Hsb
  icases Hsb with ⟨Hs0, Hs1⟩
  ihave Hrb := (slots_split c (rbM j) (rbM_whole j)) $$ Hrb
  icases Hrb with ⟨Hl0, Hl1⟩
  imod (release_first xs ws K S c j 0 rfl) $$ [Hl0 Hr0] with ⟨Hr0, #HY0⟩
  · isplitr; · iexact HR
    isplitl [Hl0]; · iexact Hl0
    iexact Hr0
  imod (release_first xs ws K S c j 1 rfl) $$ [Hl1 Hr1] with ⟨Hr1, #HY1⟩
  · isplitr; · iexact HR
    isplitl [Hl1]; · iexact Hl1
    iexact Hr1
  ihave #Hq0 := (recs_reached xs ws K S c (snd j 0)) $$ HR
  ihave #Hq1 := (recs_reached xs ws K S c (snd j 1)) $$ HR
  imodintro
  isplitr
  · unfold Freed
    isplitr; · iexact HY0
    iexact HY1
  isplitl [Hk]; · iexact Hk
  iintro #HN
  unfold RS
  isplitl [Hs0 Ha0 Hs1 Ha1]
  · isplitl [Hs0 Ha0]
    · iapply (Entails.of_eq (show sFree c j 0 = Snd c j 0 from (if_pos (by omega)).symm))
      unfold sFree
      isplitl [Hs0]; · iexact Hs0
      isplitl [Ha0]; · iexact Ha0
      iexact Hq0
    · iapply (Entails.of_eq (show sFree c j 1 = Snd c j (0 + 1) from (if_pos (by omega)).symm))
      unfold sFree
      isplitl [Hs1]; · iexact Hs1
      isplitl [Ha1]; · iexact Ha1
      iexact Hq1
  isplitl [Hb0 Hr0 Hb1 Hr1]
  · unfold Rcv
    isplitl [Hb0 Hr0]
    · isplitl [Hb0]; · iexact Hb0
      iexact Hr0
    · isplitl [Hb1]; · iexact Hb1
      iexact Hr1
  isplitr
  · unfold Freed
    isplitr; · iexact HY0
    iexact HY1
  isplitr; · iexact HN
  isplitl [Hcr]
  · unfold Crd
    iexists (∅ : Finset ℕ)
    isplitr; · ipureintro; exact ⟨Finset.empty_subset _, by decide⟩
    isplitl [Hcr]; · iexact Hcr
    unfold heard
    rw [bigSep_empty]
    iempintro
  isplitl [Ht]; · iexact Ht
  isplitl [Hrc]; · iexact Hrc
  isplitl [Hcc]; · iexact Hcc
  iexact Hct

/-! ## The handshake -/

theorem step_barSignal (c n n' : Dev nD) (hn : n' = n) (d : ℕ) (hd : d ∈ ({0, 1} : Finset ℕ)) {O : CellTallies nD τ sig ℕ} {W : Waits sig ℕ} {k' : ℕ}
    (hk' : k' = 1) (k : P F) (Q : PUnit → sProp 𝕄) :
    iprop(recs xs ws K S ∗ owes (c : Thread nD τ) (O + tallyAt (kcell n bar) 0 1) W ∗ dutyTok ER (kcell n bar) 0 d ∗ barPay n d)
      ⊢ iprop((owes (c : Thread nD τ) O W -∗ Wp c k Q) -∗ Wp c (.op (.semSignal ((n', .tc) : Thread nD τ) barS k') fun _ => k) Q) := by
  subst hn hk'
  iintro ⟨#HR, HO, Ht, HF⟩ Hk
  ihave #HI := (recs_cell xs ws K S n' bar) $$ HR
  ihave #Hr := (recs_reached xs ws K S n' bar) $$ HR
  iapply (Rounds.wp_signal 𝒱₀ ER (ringRd xs ws) (c : Thread nD τ) none (dst := (n' : Thread nD τ)) (sem := barS) (κ := K (n', bar))
      (r := 0) (d := d) (k' := 1)
      (by show d ∈ (ringRd xs ws).duties (kcell n' bar) 0; rw [duties_eq]; exact hd)
      (amount_eq xs ws n' bar 0 d) 0 O rfl) $$ [HO Ht HF]
  · isplitr; · iexact HI
    isplitl [HO]; · iexact HO
    isplitl [Ht]; · iexact Ht
    isplitl [HF]
    · rw [show (ringRd xs ws).payload ((n' : Thread nD τ), .reg barS) 0 d = barPay n' d from payload_eq xs ws n' bar 0 d]
      iexact HF
    iexact Hr
  iexact Hk

theorem step_barWait (c : Dev nD) {O : CellTallies nD τ sig ℕ} {W : Waits sig ℕ} {k' : ℕ} (hk' : k' = 2) (hO : Above 1 O)
    (k : P F) (Q : PUnit → sProp 𝕄) :
    iprop(recs xs ws K S ∗ owes (c : Thread nD τ) O W ∗ cred (tallyAt (kcell c bar) 0 2) ∗ atPos ER (kcell c bar) 0 ∅ 0)
      ⊢ iprop(((∃ W, owes (c : Thread nD τ) O W) ∗ atPos ER (kcell c bar) 1 ∅ 0 ∗ barPay c 0 ∗ barPay c 1 -∗ Wp c k Q)
        -∗ Wp c (.op (.semWait barS k') fun _ => k) Q) := by
  subst hk'
  iintro ⟨#HR, HO, Hc, Hat⟩ Hk
  ihave #HI := (recs_cell xs ws K S c bar) $$ HR
  ihave #Hlev := (recs_lev xs ws K S) $$ HR
  have hM : (levAts L lv : sProp 𝕄) ⊢ MayWait (c : Thread nD τ) (semK bar) 0 O := mayWait_of (F := F) c bar 0 1 O (by decide) (le_refl _) hO
  ihave #HM := hM $$ Hlev
  iapply (Rounds.wp_wait_rest_token 𝒱₀ ER (ringRd xs ws) (c : Thread nD τ) none (κ := K (c, bar))
      (wpE_semWait_eq 𝒱₀ (c : Thread nD τ) none Set.univ) (Set.mem_univ _) 0 (O := O) (W := W) (R := 0) (m := 0) (T := ∅)
      (by rw [show (ringRd xs ws).expect ((c : Thread nD τ), .reg barS) 0 = 2 from (expect_eq xs ws c bar 0).trans rfl])) $$ [Hc HO Hat]
  · isplitr; · iexact HI
    isplitl [Hc]; · iexact Hc
    isplitl [HO]; · iexact HO
    isplitr; · iexact HM
    iexact Hat
  iintro ⟨HO, Hat, -, Hpay⟩
  ihave Hp := (Entails.of_eq (show bigSep ((ringRd xs ws).duties ((c : Thread nD τ), .reg barS) 0 \ ∅)
      (fun d => (ringRd xs ws).payload ((c : Thread nD τ), .reg barS) 0 d) = iprop(barPay c 0 ∗ barPay c 1) from by
    rw [Finset.sdiff_empty, show (ringRd xs ws).duties ((c : Thread nD τ), .reg barS) 0 = {0, 1} from duties_eq xs ws c bar 0,
      bigSep_insert (by decide), bigSep_singleton,
      show (ringRd xs ws).payload ((c : Thread nD τ), .reg barS) 0 0 = barPay c 0 from payload_eq xs ws c bar 0 0,
      show (ringRd xs ws).payload ((c : Thread nD τ), .reg barS) 0 1 = barPay c 1 from payload_eq xs ws c bar 0 1]; rfl)) $$ Hpay
  iapply Hk
  isplitl [HO]; · iexists _; iexact HO
  isplitl [Hat]; · iexact Hat
  iexact Hp

/-! ## Whole buffers loaded and stored -/

theorem hz2 : (![0, 0] : Fin 2 → Nat) = fun _ => 0 := funext fun a => by fin_cases a <;> rfl

def xStg (c : Dev nD) (f : Vec F S4096x256 .i8) : sProp 𝕄 := ((c : Thread nD τ).loc cc0_stg0_0) ↦{fullShare} (f : (cc0_stg0_0 : Ref sig .tc).ty.Contents (Elt F))
def wStg (c : Dev nD) (f : Vec F S256x2048 .i8) : sProp 𝕄 := ((c : Thread nD τ).loc cc0_stg1_0) ↦{fullShare} (f : (cc0_stg1_0 : Ref sig .tc).ty.Contents (Elt F))

theorem load_xStg (c : Dev nD) (f : Vec F S4096x256 .i8) {inb} {hl} (k : Vec F S4096x256 .i8 → P F) (Q : PUnit → sProp 𝕄) :
    xStg c f ⊢ iprop((xStg c f -∗ Wp c (k f) Q)
      -∗ Wp c (.op (.load xM (Rect.unit (s := S4096x256) ![0, 0] S4096x256.size inb).toLoadRect hl) k) Q) := by
  have H : xStg c f ⊢ iprop((xStg c f -∗ Wp c (k (xM.view.readAt (Elt F) (Rect.unit (s := S4096x256) ![0, 0] S4096x256.size inb).toLoadRect f)) Q) -∗ Wp c (.op (.load xM (Rect.unit (s := S4096x256) ![0, 0] S4096x256.size inb).toLoadRect hl) k) Q) :=
    wp_load 𝒱₀ (c : Thread nD τ) none Set.univ (m := xM) (r := (Rect.unit (s := S4096x256) ![0, 0] S4096x256.size inb).toLoadRect) (hl := hl)
    (f := f) (k := k) (S := Finset.univ) (q := fullShare) (Q := Q) (Finset.subset_univ _)
  rw [show xM.view.readAt (Elt F) (Rect.unit (s := S4096x256) ![0, 0] S4096x256.size inb).toLoadRect f = f from
    Memref.readAt_unit_zero (Elt F) cc0_stg0_0 hz2 inb f] at H
  exact H
theorem load_wStg (c : Dev nD) (f : Vec F S256x2048 .i8) {inb} {hl} (k : Vec F S256x2048 .i8 → P F) (Q : PUnit → sProp 𝕄) :
    wStg c f ⊢ iprop((wStg c f -∗ Wp c (k f) Q)
      -∗ Wp c (.op (.load wM (Rect.unit (s := S256x2048) ![0, 0] S256x2048.size inb).toLoadRect hl) k) Q) := by
  have H : wStg c f ⊢ iprop((wStg c f -∗ Wp c (k (wM.view.readAt (Elt F) (Rect.unit (s := S256x2048) ![0, 0] S256x2048.size inb).toLoadRect f)) Q) -∗ Wp c (.op (.load wM (Rect.unit (s := S256x2048) ![0, 0] S256x2048.size inb).toLoadRect hl) k) Q) :=
    wp_load 𝒱₀ (c : Thread nD τ) none Set.univ (m := wM) (r := (Rect.unit (s := S256x2048) ![0, 0] S256x2048.size inb).toLoadRect) (hl := hl)
    (f := f) (k := k) (S := Finset.univ) (q := fullShare) (Q := Q) (Finset.subset_univ _)
  rw [show wM.view.readAt (Elt F) (Rect.unit (s := S256x2048) ![0, 0] S256x2048.size inb).toLoadRect f = f from
    Memref.readAt_unit_zero (Elt F) cc0_stg1_0 hz2 inb f] at H
  exact H

theorem store_xM (c : Dev nD) (f w : Vec F S4096x256 .bf16) {inb} {hx} {hm} (k : P F) (Q : PUnit → sProp 𝕄) :
    xPts c f ⊢ iprop((xPts c w -∗ Wp c k Q)
      -∗ Wp c (.op (.store xbM (Rect.unit (s := S4096x256) ![0, 0] S4096x256.size inb) w Finset.univ hx hm) fun _ => k) Q) := by
  have H : xPts c f ⊢ iprop((xPts c ((xbM.access (Rect.unit (s := S4096x256) ![0, 0] S4096x256.size inb)).write (Elt F) f w Finset.univ) -∗ Wp c k Q) -∗ Wp c (.op (.store xbM (Rect.unit (s := S4096x256) ![0, 0] S4096x256.size inb) w Finset.univ hx hm) fun _ => k) Q) :=
    wp_store 𝒱₀ (c : Thread nD τ) none Set.univ (m := xbM) (r := Rect.unit (s := S4096x256) ![0, 0] S4096x256.size inb)
    (f := f) (w := w) (Mk := Finset.univ) (hx := hx) (hm := hm) (k := fun _ => k) (Q := Q) (S := Finset.univ) (Finset.subset_univ _)
  rw [show (xbM.access (Rect.unit (s := S4096x256) ![0, 0] S4096x256.size inb)).write (Elt F) f w Finset.univ = w from
    Memref.write_access_unit_zero_univ (Elt F) cc0_scratch0 hz2 inb f w] at H
  exact H
theorem store_wM (c : Dev nD) (f w : Vec F S256x2048 .bf16) {inb} {hx} {hm} (k : P F) (Q : PUnit → sProp 𝕄) :
    wPts c f ⊢ iprop((wPts c w -∗ Wp c k Q)
      -∗ Wp c (.op (.store wbM (Rect.unit (s := S256x2048) ![0, 0] S256x2048.size inb) w Finset.univ hx hm) fun _ => k) Q) := by
  have H : wPts c f ⊢ iprop((wPts c ((wbM.access (Rect.unit (s := S256x2048) ![0, 0] S256x2048.size inb)).write (Elt F) f w Finset.univ) -∗ Wp c k Q) -∗ Wp c (.op (.store wbM (Rect.unit (s := S256x2048) ![0, 0] S256x2048.size inb) w Finset.univ hx hm) fun _ => k) Q) :=
    wp_store 𝒱₀ (c : Thread nD τ) none Set.univ (m := wbM) (r := Rect.unit (s := S256x2048) ![0, 0] S256x2048.size inb)
    (f := f) (w := w) (Mk := Finset.univ) (hx := hx) (hm := hm) (k := fun _ => k) (Q := Q) (S := Finset.univ) (Finset.subset_univ _)
  rw [show (wbM.access (Rect.unit (s := S256x2048) ![0, 0] S256x2048.size inb)).write (Elt F) f w Finset.univ = w from
    Memref.write_access_unit_zero_univ (Elt F) cc0_scratch1 hz2 inb f w] at H
  exact H

/-- What device `c` holds for the handshake: the tokens of the two units it gives, the credit of the two it gets. -/
def barGhost (c : Dev nD) : sProp 𝕄 :=
  iprop(dutyTok ER (kcell (left c) bar) 0 0 ∗ dutyTok ER (kcell (right c) bar) 0 1 ∗ atPos ER (kcell c bar) 0 ∅ 0)

/-- The handshake and the two casts. -/
theorem prologue_rule (c : Dev nD) {W : Waits sig ℕ} (f : Vec F S4096x256 .bf16) (g : Vec F S256x2048 .bf16) (k : P F) (Q : PUnit → sProp 𝕄) :
    iprop(recs xs ws K S ∗ owes (c : Thread nD τ) (O₀ c) W ∗ barGhost c ∗ cred (tallyAt (kcell c bar) 0 2)
        ∗ (Freed c 0 0 ∗ Freed c 1 0 ∗ Freed c 2 0 ∗ Freed c 3 0) ∗ xStg c (xs c) ∗ wStg c (ws c) ∗ xPts c f ∗ wPts c g)
      ⊢ iprop(((∃ W, owes (c : Thread nD τ) (owed c 0) W) ∗ atPos ER (kcell c bar) 1 ∅ 0
          ∗ (Freed (nxt 0 c) 0 0 ∗ Freed (nxt 1 c) 1 0 ∗ Freed (nxt 2 c) 2 0 ∗ Freed (nxt 3 c) 3 0)
          ∗ xStg c (xs c) ∗ wStg c (ws c) ∗ xbPts xs c ∗ wbPts ws c -∗ Wp c k Q) -∗ Wp c (prologue c k) Q) := by
  unfold prologue barGhost xbPts wbPts
  iintro ⟨#HR, HO, ⟨Ht1, Ht2, Hat⟩, Hc, ⟨#HF0, #HF1, #HF2, #HF3⟩, Hx, Hw, Hxb, Hwb⟩ Hk
  iapply (step_barSignal xs ws K S c (left c) _ (dev1_eq c) 0 (by decide) (O := O₁ c) (k' := (1#32 : BitVec 32).toInt.toNat) (by decide) _ Q) $$ [HO Ht1]
  · isplitr; · iexact HR
    isplitl [HO]; · iexact HO
    isplitl [Ht1]; · iexact Ht1
    rw [show barPay (F := F) (left c) 0 = iprop(Freed c 0 0 ∗ Freed c 2 0) from by unfold barPay; rw [if_pos rfl, right_left]]
    isplitr; · iexact HF0
    iexact HF2
  iintro HO
  iapply (step_barSignal xs ws K S c (right c) _ (dev2_eq c) 1 (by decide) (O := owed c 0) (k' := (1#32 : BitVec 32).toInt.toNat) (by decide) _ Q) $$ [HO Ht2]
  · isplitr; · iexact HR
    isplitl [HO]; · iexact HO
    isplitl [Ht2]; · iexact Ht2
    rw [show barPay (F := F) (right c) 1 = iprop(Freed c 1 0 ∗ Freed c 3 0) from by unfold barPay; rw [if_neg (by decide), left_right]]
    isplitr; · iexact HF1
    iexact HF3
  iintro HO
  iapply (step_barWait xs ws K S c (O := owed c 0) (k' := (2#32 : BitVec 32).toInt.toNat) (by decide) (above_owed c (by omega)) _ Q) $$ [HO Hc Hat]
  · isplitr; · iexact HR
    isplitl [HO]; · iexact HO
    isplitl [Hc]; · iexact Hc
    iexact Hat
  iintro ⟨HO, Hat, Hp0, Hp1⟩
  ihave Hp0 := (Entails.of_eq (show barPay (F := F) c 0 = iprop(Freed (nxt 0 c) 0 0 ∗ Freed (nxt 2 c) 2 0) from if_pos rfl)) $$ Hp0
  ihave Hp1 := (Entails.of_eq (show barPay (F := F) c 1 = iprop(Freed (nxt 1 c) 1 0 ∗ Freed (nxt 3 c) 3 0) from if_neg (by decide))) $$ Hp1
  icases Hp0 with ⟨#HN0, #HN2⟩
  icases Hp1 with ⟨#HN1, #HN3⟩
  iapply (load_xStg c (xs c) _ Q) $$ Hx
  iintro Hx
  iapply (load_xM c f _ _ Q) $$ Hxb
  iintro Hxb
  iapply (store_xM c f _ _ Q) $$ Hxb
  iintro Hxb
  iapply (load_wStg c (ws c) _ Q) $$ Hw
  iintro Hw
  iapply (load_wM c g _ _ Q) $$ Hwb
  iintro Hwb
  iapply (store_wM c g _ _ Q) $$ Hwb
  iintro Hwb
  iapply Hk
  isplitl [HO]; · iexact HO
  isplitl [Hat]; · iexact Hat
  isplitr
  · isplitr; · iexact HN0
    isplitr; · iexact HN1
    isplitr; · iexact HN2
    iexact HN3
  isplitl [Hx]; · iexact Hx
  isplitl [Hw]; · iexact Hw
  isplitl [Hxb]; · iexact Hxb
  iexact Hwb

/-! ## The end -/

/-- The scalar a scale's buffer holds. -/
def scl (f : Vec F S1 .f32) : F .f32 := f (Shape.Idx.first (numel1_S1.symm ▸ Nat.one_pos))

def sxStg (c : Dev nD) (f : Vec F S1 .f32) : sProp 𝕄 := ((c : Thread nD τ).loc cc0_stg2_0) ↦{fullShare} (f : (cc0_stg2_0 : Ref sig .tc).ty.Contents (Elt F))
def swStg (c : Dev nD) (f : Vec F S1 .f32) : sProp 𝕄 := ((c : Thread nD τ).loc cc0_stg3_0) ↦{fullShare} (f : (cc0_stg3_0 : Ref sig .tc).ty.Contents (Elt F))

theorem idx_S1 (x y : S1.Idx) : x = y := by
  have h : Fintype.card S1.Idx ≤ 1 := by rw [Shape.card_idx]; exact numel1_S1.le
  exact Fintype.card_le_one_iff.mp h x y

theorem load_sx (c : Dev nD) (f : Vec F S1 .f32) {r : Rect S1} {hw} {x : r.shape.Idx} (k : F .f32 → P F) (Q : PUnit → sProp 𝕄) :
    sxStg c f ⊢ iprop((sxStg c f -∗ Wp c (k (scl f)) Q) -∗ Wp c (smemLoadElt sxM r hw x k) Q) := by
  have H : sxStg c f ⊢ iprop((sxStg c f -∗ Wp c (k ((sxM.access r).read (Elt F) f x)) Q) -∗ Wp c (smemLoadElt sxM r hw x k) Q) :=
    wp_smemLoadElt 𝒱₀ (c : Thread nD τ) none Set.univ (m := sxM) (r := r) (hw := hw) (x := x)
    (f := f) (k := k) (S := Finset.univ) (q := fullShare) (Q := Q) (Finset.subset_univ _)
  rw [show (sxM.access r).read (Elt F) f x = scl f from congrArg f (idx_S1 _ _)] at H
  exact H
theorem load_sw (c : Dev nD) (f : Vec F S1 .f32) {r : Rect S1} {hw} {x : r.shape.Idx} (k : F .f32 → P F) (Q : PUnit → sProp 𝕄) :
    swStg c f ⊢ iprop((swStg c f -∗ Wp c (k (scl f)) Q) -∗ Wp c (smemLoadElt swM r hw x k) Q) := by
  have H : swStg c f ⊢ iprop((swStg c f -∗ Wp c (k ((swM.access r).read (Elt F) f x)) Q) -∗ Wp c (smemLoadElt swM r hw x k) Q) :=
    wp_smemLoadElt 𝒱₀ (c : Thread nD τ) none Set.univ (m := swM) (r := r) (hw := hw) (x := x)
    (f := f) (k := k) (S := Finset.univ) (q := fullShare) (Q := Q) (Finset.subset_univ _)
  rw [show (swM.access r).read (Elt F) f x = scl f from congrArg f (idx_S1 _ _)] at H
  exact H

theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Device `c`'s block of the result. -/
def resV (c : Dev nD) : Vec F S256x2048 .f32 := fun p =>
  result xs ws a b ⟨(p 1).val / 512, Nat.div_lt_of_lt_mul (p 1).isLt⟩ c
    (fun | ⟨0, _⟩ => ⟨(p 0).val, (p 0).isLt⟩ | ⟨1, _⟩ => ⟨(p 1).val % 512, Nat.mod_lt _ (by decide)⟩)

theorem eq_resV (c : Dev nD) (f : Vec F S256x2048 .f32) (h : ∀ (j : Fin 4) x, f ((colR j).emb x) = result xs ws a b j c x) :
    f = resV xs ws a b c := funext fun p => by
  unfold resV
  rw [← h]
  congr 1
  funext d
  apply Fin.ext
  match d with
  | ⟨0, _⟩ => show (p 0).val = 0 + 1 * (p 0).val; omega
  | ⟨1, _⟩ => show (p 1).val = 512 * ((p 1).val / 512) + 1 * ((p 1).val % 512); omega

theorem Wp_ret (c : Dev nD) (Q : PUnit → sProp 𝕄) : iprop(|={Set.univ}=> Q ⟨⟩) ⊢ Wp c (.ret ⟨⟩) Q := Entails.of_eq rfl
theorem Wp_deviceId (c : Dev nD) (k : Dev nD → P F) (Q : PUnit → sProp 𝕄) : Wp c (k c) Q ⊢ Wp c (.op .deviceId k) Q :=
  Entails.of_eq (wp_deviceId 𝒱₀ (c : Thread nD τ) none Set.univ).symm

/-- The end of the body. -/
theorem epilogue_rule (c : Dev nD) (sa sb : Vec F S1 .f32) {W : Waits sig ℕ} (Q : PUnit → sProp 𝕄) :
    iprop(recs xs ws K S ∗ owes (c : Thread nD τ) 0 W ∗ (RS c 0 15 ∗ RS c 1 15 ∗ RS c 2 15 ∗ RS c 3 15) ∗ xbPts xs c ∗ wbPts ws c
        ∗ sxStg c sa ∗ swStg c sb ∗ (∃ f, oPts c f))
      ⊢ iprop(((∃ W, owes (c : Thread nD τ) 0 W) ∗ (Fin' c 0 ∗ Fin' c 1 ∗ Fin' c 2 ∗ Fin' c 3) ∗ xbPts xs c ∗ wbPts ws c
          ∗ sxStg c sa ∗ swStg c sb ∗ oPts c (resV xs ws (scl sa) (scl sb) c) -∗ |={Set.univ}=> Q ⟨⟩)
        -∗ Wp c (epilogue c) Q) := by
  unfold epilogue
  iintro ⟨#HR, HO, ⟨H0, H1, H2, H3⟩, Hx, Hw, Hsa, Hsb, ⟨%f, Ho⟩⟩ Hk
  iapply (load_sx c sa _ Q) $$ Hsa
  iintro Hsa
  iapply (load_sw c sb _ Q) $$ Hsb
  iintro Hsb
  iapply (finish_rule xs ws K S (scl sa) (scl sb) c 0 _ Q) $$ [HO H0 Hx Hw Ho]
  · isplitr; · iexact HR
    isplitl [HO]; · iexact HO
    isplitl [H0]; · iexact H0
    isplitl [Hx]; · iexact Hx
    isplitl [Hw]; · iexact Hw
    unfold Out
    iexists f
    isplitr; · ipureintro; exact fun j hj => absurd hj (Nat.not_lt_zero _)
    iexact Ho
  iintro ⟨⟨%W0, HO⟩, H0, Hx, Hw, Ho⟩
  iapply (finish_rule xs ws K S (scl sa) (scl sb) c 1 _ Q) $$ [HO H1 Hx Hw Ho]
  · isplitr; · iexact HR
    isplitl [HO]; · iexact HO
    isplitl [H1]; · iexact H1
    isplitl [Hx]; · iexact Hx
    isplitl [Hw]; · iexact Hw
    iexact Ho
  iintro ⟨⟨%W1, HO⟩, H1, Hx, Hw, Ho⟩
  iapply (finish_rule xs ws K S (scl sa) (scl sb) c 2 _ Q) $$ [HO H2 Hx Hw Ho]
  · isplitr; · iexact HR
    isplitl [HO]; · iexact HO
    isplitl [H2]; · iexact H2
    isplitl [Hx]; · iexact Hx
    isplitl [Hw]; · iexact Hw
    iexact Ho
  iintro ⟨⟨%W2, HO⟩, H2, Hx, Hw, Ho⟩
  iapply (finish_rule xs ws K S (scl sa) (scl sb) c 3 _ Q) $$ [HO H3 Hx Hw Ho]
  · isplitr; · iexact HR
    isplitl [HO]; · iexact HO
    isplitl [H3]; · iexact H3
    isplitl [Hx]; · iexact Hx
    isplitl [Hw]; · iexact Hw
    iexact Ho
  iintro ⟨HO, H3, Hx, Hw, Ho⟩
  unfold Out
  icases Ho with ⟨%g, %hg, Ho⟩
  have hg' : g = resV xs ws (scl sa) (scl sb) c := eq_resV xs ws (scl sa) (scl sb) c g fun j x => hg j j.isLt x
  subst hg'
  iapply (Wp_ret c Q)
  iapply Hk
  isplitl [HO]; · iexact HO
  isplitl [H0 H1 H2 H3]
  · isplitl [H0]; · iexact H0
    isplitl [H1]; · iexact H1
    isplitl [H2]; · iexact H2
    iexact H3
  isplitl [Hx]; · iexact Hx
  isplitl [Hw]; · iexact Hw
  isplitl [Hsa]; · iexact Hsa
  isplitl [Hsb]; · iexact Hsb
  iexact Ho

/-! ## The whole body -/

/-- What the launch deals device `c`. -/
def Ghost (c : Dev nD) : sProp 𝕄 := iprop(barGhost c ∗ bigSep Finset.univ fun j : Fin 4 => ringGhost c j)
/-- The credits of its waits. -/
def Creds (c : Dev nD) : sProp 𝕄 := iprop(cred (tallyAt (kcell c bar) 0 2) ∗ bigSep Finset.univ fun j : Fin 4 => ringCreds c j)
/-- Its scratch buffers. -/
def Scr (c : Dev nD) : sProp 𝕄 :=
  iprop((∃ f, xPts c f) ∗ (∃ g, wPts c g) ∗ bigSep Finset.univ fun j : Fin 4 => iprop(bufAny c (sbM j) ∗ bufAny c (rbM j)))
/-- Its cells at zero. -/
def Zeros (c : Dev nD) : sProp 𝕄 := iprop(semVal (kcell c bar) 0 ∗ bigSep Finset.univ fun j : Fin 4 => zeros c j)
/-- Its four operands. -/
def Ins (c : Dev nD) (sa sb : Vec F S1 .f32) : sProp 𝕄 := iprop(xStg c (xs c) ∗ wStg c (ws c) ∗ sxStg c sa ∗ swStg c sb)

/-- A persistent fact handed to each member of a family. -/
theorem each_with {I : Type} [DecidableEq I] {s : Finset I} {R : sProp 𝕄} [BI.Persistent R] {Φ Ψ : I → sProp 𝕄}
    (h : ∀ i ∈ s, iprop(R ∗ Φ i) ⊢ Ψ i) : iprop(R ∗ bigSep s Φ) ⊢ bigSep s Ψ :=
  (sep_mono_left (BI.bigSep_of_persistent s R)).trans (by rw [← bigSep_sep']; exact bigSep_mono h)

theorem open_all (c : Dev nD) :
    iprop(recs xs ws K S ∗ bigSep Finset.univ fun j : Fin 4 => iprop((bufAny c (sbM j) ∗ bufAny c (rbM j)) ∗ ringGhost c j ∗ ringCreds c j))
      ⊢ iprop(|={Set.univ}=> bigSep Finset.univ fun j : Fin 4 => iprop(Freed c j 0 ∗ kept c j ∗ (Freed (nxt j c) j 0 -∗ RS c j 0))) :=
  (each_with fun j _ => by
    iintro ⟨#HR, ⟨Hs, Hr⟩, Hg, Hc⟩
    iapply (open_rule xs ws K S c j)
    isplitr; · iexact HR
    isplitl [Hs]; · iexact Hs
    isplitl [Hr]; · iexact Hr
    isplitl [Hg]; · iexact Hg
    iexact Hc).trans (bigSep_fupd _ _)

theorem close_all (c : Dev nD) :
    iprop(recs xs ws K S ∗ bigSep Finset.univ fun j : Fin 4 => iprop(Fin' c j ∗ kept c j))
      ⊢ iprop(|={Set.univ}=> bigSep Finset.univ fun j : Fin 4 => iprop((bufAny c (sbM j) ∗ bufAny c (rbM j)) ∗ zeros c j)) :=
  (each_with fun j _ => close_rule xs ws K S c j).trans (bigSep_fupd _ _)

/-- What is carried past the sixty hops. -/
def Rest (c : Dev nD) (sa sb : Vec F S1 .f32) (Q : PUnit → sProp 𝕄) : sProp 𝕄 :=
  iprop(atPos ER (kcell c bar) 1 ∅ 0 ∗ (bigSep Finset.univ fun j : Fin 4 => kept c j) ∗ Ins xs ws c sa sb ∗ (∃ f, oPts c f)
    ∗ ((∃ W, owes (c : Thread nD τ) 0 W) ∗ Zeros c ∗ Scr c ∗ Ins xs ws c sa sb ∗ oPts c (resV xs ws (scl sa) (scl sb) c) -∗ Q ⟨⟩))

theorem tail_rule (c : Dev nD) (sa sb : Vec F S1 .f32) (Q : PUnit → sProp 𝕄) :
    iprop(At xs ws K S c 60 ∗ Rest xs ws c sa sb Q) ⊢ Wp c (epilogue c) Q := by
  unfold At RSs Rest Ins
  rw [owed_end]
  iintro ⟨⟨#HR, ⟨%W, HO⟩, Hrs, Hxb, Hwb⟩, Hat, Hk, ⟨Hx, Hw, Hsa, Hsb⟩, Ho, HQ⟩
  ihave Hrs := (Entails.of_eq ((fin4 (F := F) _).trans (show _ = iprop(RS c 0 15 ∗ RS c 1 15 ∗ RS c 2 15 ∗ RS c 3 15) from rfl))) $$ Hrs
  iapply (epilogue_rule xs ws K S c sa sb Q) $$ [HO Hrs Hxb Hwb Hsa Hsb Ho]
  · isplitr; · iexact HR
    isplitl [HO]; · iexact HO
    isplitl [Hrs]; · iexact Hrs
    isplitl [Hxb]; · iexact Hxb
    isplitl [Hwb]; · iexact Hwb
    isplitl [Hsa]; · iexact Hsa
    isplitl [Hsb]; · iexact Hsb
    iexact Ho
  iintro ⟨HO, Hf, Hxb, Hwb, Hsa, Hsb, Ho⟩
  imod (close_all xs ws K S c) $$ [Hf Hk] with Hf
  · isplitr; · iexact HR
    rw [bigSep_sep']
    isplitl [Hf]
    · rw [fin4]; iexact Hf
    iexact Hk
  imod (close_bar xs ws K S c) $$ [Hat] with Hz
  · isplitr; · iexact HR
    iexact Hat
  imodintro
  ihave Hf := (Entails.of_eq (bigSep_sep' _ _ _)) $$ Hf
  icases Hf with ⟨Hbuf, Hzs⟩
  iapply HQ
  isplitl [HO]; · iexact HO
  isplitl [Hz Hzs]
  · unfold Zeros
    isplitl [Hz]; · iexact Hz
    iexact Hzs
  isplitl [Hxb Hwb Hbuf]
  · unfold Scr xbPts wbPts
    isplitl [Hxb]; · iexists _; iexact Hxb
    isplitl [Hwb]; · iexists _; iexact Hwb
    iexact Hbuf
  isplitl [Hx Hw Hsa Hsb]
  · isplitl [Hx]; · iexact Hx
    isplitl [Hw]; · iexact Hw
    isplitl [Hsa]; · iexact Hsa
    iexact Hsb
  iexact Ho

/-- The body of device `c`: from what the launch deals it to its block of the result stored, every cell at zero and every
    buffer back. -/
theorem body_rule (c : Dev nD) (sa sb : Vec F S1 .f32) {W : Waits sig ℕ} (Q : PUnit → sProp 𝕄) :
    iprop(recs xs ws K S ∗ Ghost c ∗ Creds c ∗ Scr c ∗ owes (c : Thread nD τ) (O₀ c) W ∗ Ins xs ws c sa sb ∗ (∃ f, oPts c f))
      ⊢ iprop(((∃ W, owes (c : Thread nD τ) 0 W) ∗ Zeros c ∗ Scr c ∗ Ins xs ws c sa sb ∗ oPts c (resV xs ws (scl sa) (scl sb) c) -∗ Q ⟨⟩)
        -∗ Wp c body Q) := by
  iintro ⟨#HR, HG, HC, HS, HO, HI, Ho⟩ Hk
  unfold body
  iapply (Wp_deviceId c _ Q)
  ihave HG := (Entails.of_eq (show Ghost (F := F) c = iprop(barGhost c ∗ bigSep Finset.univ fun j : Fin 4 => ringGhost c j) from rfl)) $$ HG
  ihave HC := (Entails.of_eq (show Creds (F := F) c = iprop(cred (tallyAt (kcell c bar) 0 2) ∗ bigSep Finset.univ fun j : Fin 4 => ringCreds c j) from rfl)) $$ HC
  ihave HS := (Entails.of_eq (show Scr (F := F) c = iprop((∃ f, xPts c f) ∗ (∃ g, wPts c g) ∗ bigSep Finset.univ fun j : Fin 4 => iprop(bufAny c (sbM j) ∗ bufAny c (rbM j))) from rfl)) $$ HS
  ihave HI := (Entails.of_eq (show Ins xs ws c sa sb = iprop(xStg c (xs c) ∗ wStg c (ws c) ∗ sxStg c sa ∗ swStg c sb) from rfl)) $$ HI
  icases HG with ⟨Hbg, Hg⟩
  icases HC with ⟨Hbc, Hc⟩
  icases HS with ⟨⟨%fx, Hxb⟩, ⟨%fw, Hwb⟩, Hbuf⟩
  icases HI with ⟨Hx, Hw, Hsa, Hsb⟩
  imod (open_all xs ws K S c) $$ [Hg Hc Hbuf] with Hopen
  · isplitr; · iexact HR
    iapply (Entails.of_eq (bigSep_sep' Finset.univ (fun j : Fin 4 => iprop(bufAny (F := F) c (sbM j) ∗ bufAny c (rbM j))) fun j => iprop(ringGhost c j ∗ ringCreds c j)).symm)
    isplitl [Hbuf]; · iexact Hbuf
    iapply (Entails.of_eq (bigSep_sep' Finset.univ (fun j : Fin 4 => ringGhost (F := F) c j) fun j => ringCreds c j).symm)
    isplitl [Hg]; · iexact Hg
    iexact Hc
  ihave Hopen := (Entails.of_eq (fin4 _)) $$ Hopen
  icases Hopen with ⟨⟨#HF0, Hk0, Ho0⟩, ⟨#HF1, Hk1, Ho1⟩, ⟨#HF2, Hk2, Ho2⟩, #HF3, Hk3, Ho3⟩
  iapply (prologue_rule xs ws K S c fx fw _ Q) $$ [HO Hbg Hbc Hx Hw Hxb Hwb]
  · isplitr; · iexact HR
    isplitl [HO]; · iexact HO
    isplitl [Hbg]; · iexact Hbg
    isplitl [Hbc]; · iexact Hbc
    isplitr
    · isplitr; · iexact HF0
      isplitr; · iexact HF1
      isplitr; · iexact HF2
      iexact HF3
    isplitl [Hx]; · iexact Hx
    isplitl [Hw]; · iexact Hw
    isplitl [Hxb]; · iexact Hxb
    iexact Hwb
  iintro ⟨HO, Hat, ⟨#HN0, #HN1, #HN2, #HN3⟩, Hx, Hw, Hxb, Hwb⟩
  ihave H0 := Ho0 $$ HN0
  ihave H1 := Ho1 $$ HN1
  ihave H2 := Ho2 $$ HN2
  ihave H3 := Ho3 $$ HN3
  iapply (hops_rule xs ws K S c Q 60 le_rfl (epilogue c) (Rest xs ws c sa sb Q) (tail_rule xs ws K S c sa sb Q))
  isplitl [HO H0 H1 H2 H3 Hxb Hwb]
  · unfold At RSs
    isplitr; · iexact HR
    isplitl [HO]; · iexact HO
    isplitl [H0 H1 H2 H3]
    · iapply (Entails.of_eq ((show iprop(RS c 0 0 ∗ RS c 1 0 ∗ RS c 2 0 ∗ RS c 3 0) = _ from rfl).trans
        (fin4 (F := F) fun j : Fin 4 => RS c j ((0 + 3 - j.val) / 4)).symm))
      isplitl [H0]; · iexact H0
      isplitl [H1]; · iexact H1
      isplitl [H2]; · iexact H2
      iexact H3
    isplitl [Hxb]; · iexact Hxb
    iexact Hwb
  unfold Rest Ins
  isplitl [Hat]; · iexact Hat
  isplitl [Hk0 Hk1 Hk2 Hk3]
  · rw [fin4]
    isplitl [Hk0]; · iexact Hk0
    isplitl [Hk1]; · iexact Hk1
    isplitl [Hk2]; · iexact Hk2
    iexact Hk3
  isplitl [Hx Hw Hsa Hsb]
  · isplitl [Hx]; · iexact Hx
    isplitl [Hw]; · iexact Hw
    isplitl [Hsa]; · iexact Hsa
    iexact Hsb
  isplitl [Ho]; · iexact Ho
  iexact Hk

end Cert.KernelIdeal.Rings

end
-- ==== Proof.Deal.lean ====
/-
# Dealing the launch's ghost state

The launch makes, for every cell, its place and the tokens of its duties, and for every landing slot the tokens of its
writes. Each device gets its own places and the tokens of what it pays: its own send duties, the receive duties and writes
of the device its copies go to, the credit duties of the device they come from, and a barrier duty of each neighbour.
-/
module

public import proofs.«01_k».proof.Proof.Body

@[expose] public section

set_option maxRecDepth 8000

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok initSlots slots_init USlots)

variable {F : FTy → Type} [FloatOps F]

local notation "𝕄" => MT nD τ sig ℕ (Elt F) ℕ UU ℕ

variable (xs : Dev nD → Vec F S4096x256 .i8) (ws : Dev nD → Vec F S256x2048 .i8)

/-! ## Families over the devices and rings -/

/-- The numbers below `n` as a type or as a set. -/
theorem fin_Ico (n : ℕ) (Φ : ℕ → sProp 𝕄) : (bigSep Finset.univ fun i : Fin n => Φ i.val) = bigSep (Finset.Ico 0 n) Φ := by
  rw [show Finset.Ico 0 n = (Finset.univ : Finset (Fin n)).map Fin.valEmbedding from by
    ext x; simp only [Finset.mem_Ico, Finset.mem_map, Finset.mem_univ, true_and, Fin.valEmbedding_apply]
    exact ⟨fun h => ⟨⟨x, h.2⟩, rfl⟩, fun ⟨i, h⟩ => h ▸ ⟨Nat.zero_le _, i.isLt⟩⟩, bigSep_map]
  rfl

/-- A family over the devices and rings, each taken at the device after along the ring; -/
theorem deal_next (Ψ : Dev nD → Fin 4 → sProp 𝕄) :
    (bigSep Finset.univ fun c : Dev nD => bigSep Finset.univ fun j : Fin 4 => Ψ c j)
      = bigSep Finset.univ fun c : Dev nD => bigSep Finset.univ fun j : Fin 4 => Ψ (nxt j c) j := by
  rw [Pipeline.bigSep_univ_comm, Pipeline.bigSep_univ_comm (fun (c : Dev nD) (j : Fin 4) => Ψ (nxt j c) j)]
  exact bigSep_congr fun j _ => bigSep_univ_equiv (along j) fun c => Ψ c j
/-- and at the device before. -/
theorem deal_prev (Ψ : Dev nD → Fin 4 → sProp 𝕄) :
    (bigSep Finset.univ fun c : Dev nD => bigSep Finset.univ fun j : Fin 4 => Ψ c j)
      = bigSep Finset.univ fun c : Dev nD => bigSep Finset.univ fun j : Fin 4 => Ψ (prv j c) j := by
  rw [Pipeline.bigSep_univ_comm, Pipeline.bigSep_univ_comm (fun (c : Dev nD) (j : Fin 4) => Ψ (prv j c) j)]
  exact bigSep_congr fun j _ => bigSep_univ_equiv (along j).symm fun c => Ψ c j

/-- A family over the cells of a device. -/
theorem cells_split (Φ : Kc → sProp 𝕄) :
    bigSep Finset.univ Φ = iprop(Φ bar ∗ bigSep Finset.univ fun j : Fin 4 =>
      iprop(Φ (snd j 0) ∗ Φ (snd j 1) ∗ Φ (rcv j 0) ∗ Φ (rcv j 1) ∗ Φ (crd j))) := by
  rw [bigSep_univ_sum, bigSep_univ_prod,
    show (bigSep Finset.univ fun a : Unit => Φ (.inl a)) = Φ bar from bigSep_univ_eq_bigSepL [()] (by decide) (by decide) _]
  exact congrArg (fun P : sProp 𝕄 => iprop(Φ bar ∗ P)) (bigSep_congr fun j _ =>
    bigSep_univ_eq_bigSepL [(0 : Fin 5), 1, 2, 3, 4] (by decide) (by decide) _)

/-! ## The tokens -/

/-- The duties of a device's cells: the barrier's two; per ring the landings at the send cells and at the receive cells,
    and the credits. -/
abbrev TK : Type := Fin 2 ⊕ (Fin 4 × (Fin 15 ⊕ (Fin 15 ⊕ Fin 13)))

def tkOf : TK → Kc × ℕ × ℕ
  | .inl d => (bar, 0, d.val)
  | .inr (j, .inl i) => (snd j (sl i.val), i.val / 2, 0)
  | .inr (j, .inr (.inl i)) => (rcv j (sl i.val), i.val / 2, 0)
  | .inr (j, .inr (.inr d)) => (crd j, 0, d.val)

theorem tkOf_inj : Function.Injective tkOf := by decide +kernel

abbrev tokOf (x : Dev nD × TK) : GSem nD τ sig × ℕ × ℕ := (kcell x.1 (tkOf x.2).1, (tkOf x.2).2)

theorem kcell_inj {c c' : Dev nD} {k k' : Kc} (h : kcell c k = kcell c' k') : c = c' ∧ k = k' := by
  have := (keyOf_kcell c k).symm.trans ((congrArg keyOf h).trans (keyOf_kcell c' k'))
  simpa using this

theorem tokOf_inj : Function.Injective tokOf := by
  rintro ⟨c, x⟩ ⟨c', x'⟩ h
  obtain ⟨hc, hk⟩ := kcell_inj (congrArg Prod.fst h)
  subst hc
  exact congrArg (Prod.mk c) (tkOf_inj (Prod.ext hk (congrArg (fun y : GSem nD τ sig × ℕ × ℕ => y.2) h)))

def ringCells : Finset (GSem nD τ sig) :=
  Finset.univ.map ⟨fun ck : Dev nD × Kc => kcell ck.1 ck.2, fun a b h => Prod.ext (kcell_inj h).1 (kcell_inj h).2⟩
def ringToks : Finset (GSem nD τ sig × ℕ × ℕ) := Finset.univ.map ⟨tokOf, tokOf_inj⟩

theorem over_cells (Φ : GSem nD τ sig → sProp 𝕄) :
    bigSep ringCells Φ = bigSep Finset.univ fun c : Dev nD => bigSep Finset.univ fun k : Kc => Φ (kcell c k) := by
  unfold ringCells; rw [bigSep_map, bigSep_univ_prod]; rfl

def sndTok (c : Dev nD) (j : Fin 4) (i : ℕ) : sProp 𝕄 := dutyTok ER (kcell c (snd j (sl i))) (i / 2) 0
def rcvTok (c : Dev nD) (j : Fin 4) (i : ℕ) : sProp 𝕄 := dutyTok ER (kcell c (rcv j (sl i))) (i / 2) 0
def ownCrdTok (c : Dev nD) (j : Fin 4) (d : ℕ) : sProp 𝕄 := dutyTok ER (kcell c (crd j)) 0 d
def wrTok (c : Dev nD) (j : Fin 4) (i : ℕ) : sProp 𝕄 := writeTok ES (c, j, sl i) (i / 2 + 1)

/-- The duty tokens, cell by cell. -/
theorem over_toks : (bigSep ringToks fun x => (dutyTok ER x.1 x.2.1 x.2.2 : sProp 𝕄))
    = bigSep Finset.univ fun c : Dev nD => iprop((dutyTok ER (kcell c bar) 0 0 ∗ dutyTok ER (kcell c bar) 0 1)
      ∗ bigSep Finset.univ fun j : Fin 4 => iprop(bigSep (Finset.Ico 0 15) (sndTok c j) ∗ bigSep (Finset.Ico 0 15) (rcvTok c j)
        ∗ bigSep (Finset.Ico 0 13) (ownCrdTok c j))) := by
  unfold ringToks
  rw [bigSep_map, bigSep_univ_prod]
  refine bigSep_congr fun c _ => ?_
  show (bigSep Finset.univ fun y : TK => (dutyTok ER (kcell c (tkOf y).1) (tkOf y).2.1 (tkOf y).2.2 : sProp 𝕄)) = _
  rw [bigSep_univ_sum, bigSep_univ_prod, ← BI.bigSep_congr (fun j _ => congrArg₂ (fun A B : sProp 𝕄 => iprop(A ∗ B)) (fin_Ico 15 (sndTok c j))
    (congrArg₂ (fun A B : sProp 𝕄 => iprop(A ∗ B)) (fin_Ico 15 (rcvTok c j)) (fin_Ico 13 (ownCrdTok c j)))),
    show (bigSep Finset.univ fun a : Fin 2 => (dutyTok ER (kcell c (tkOf (.inl a)).1) (tkOf (.inl a)).2.1 (tkOf (.inl a)).2.2 : sProp 𝕄))
      = iprop(dutyTok ER (kcell c bar) 0 0 ∗ dutyTok ER (kcell c bar) 0 1) from bigSep_univ_eq_bigSepL [(0 : Fin 2), 1] (by decide) (by decide) _]
  refine congrArg (fun P : sProp 𝕄 => iprop((dutyTok ER (kcell c bar) 0 0 ∗ dutyTok ER (kcell c bar) 0 1) ∗ P)) (bigSep_congr fun j _ => ?_)
  rw [bigSep_univ_sum, bigSep_univ_sum]
  rfl

/-- The write tokens, slot by slot. -/
theorem over_writes : (bigSep ((Finset.univ : Finset Key) ×ˢ Finset.range 9) fun x => (writeTok ES x.1 (x.2 + 1) : sProp 𝕄))
    ⊢ bigSep Finset.univ fun c : Dev nD => bigSep Finset.univ fun j : Fin 4 => iprop(bigSep (Finset.Ico 0 15) (wrTok c j) ∗ kept c j) := by
  let f : Dev nD × Fin 4 × Fin 17 → Key × ℕ := fun x => ((x.1, x.2.1, sl x.2.2.val), x.2.2.val / 2)
  have hf : Function.Injective f := by
    rintro ⟨c, j, i⟩ ⟨c', j', i'⟩ h
    have h1 : c = c' := congrArg (fun y : Key × ℕ => y.1.1) h
    have h2 : j = j' := congrArg (fun y : Key × ℕ => y.1.2.1) h
    have h3 : sl i.val = sl i'.val := congrArg (fun y : Key × ℕ => y.1.2.2) h
    have h4 : i.val / 2 = i'.val / 2 := congrArg (fun y : Key × ℕ => y.2) h
    have h5 := two_mul_sl i.val
    have h6 := two_mul_sl i'.val
    rw [h3, h4] at h5
    rw [h1, h2, Fin.ext (h5.symm.trans h6)]
  refine (BI.bigSep_subset (t := Finset.univ.image f) fun y hy => ?_).trans ?_
  · obtain ⟨x, -, rfl⟩ := Finset.mem_image.mp hy
    exact Finset.mem_product.mpr ⟨Finset.mem_univ _, Finset.mem_range.mpr (by have := x.2.2.isLt; show x.2.2.val / 2 < 9; omega)⟩
  rw [bigSep_image_of_injOn hf.injOn]
  refine (Entails.of_eq (?_ : (_ : sProp 𝕄) = _))
  rw [bigSep_univ_prod]
  refine bigSep_congr fun c _ => ?_
  rw [bigSep_univ_prod]
  refine bigSep_congr fun j _ => ?_
  refine (fin_Ico 17 (wrTok c j)).trans ?_
  rw [show Finset.Ico 0 17 = insert 15 (insert 16 (Finset.Ico 0 15)) from by decide, bigSep_insert (by decide), bigSep_insert (by decide)]
  refine BI.Entails.antisymm (show iprop(wrTok c j 15 ∗ wrTok c j 16 ∗ bigSep (Finset.Ico 0 15) (wrTok c j)) ⊢ _ from ?_)
    (show iprop(bigSep (Finset.Ico 0 15) (wrTok c j) ∗ kept c j) ⊢ iprop(wrTok c j 15 ∗ wrTok c j 16 ∗ bigSep (Finset.Ico 0 15) (wrTok c j)) from ?_)
  · unfold kept wrTok
    iintro ⟨H15, H16, H⟩
    isplitl [H]; · iexact H
    isplitl [H15]; · iexact H15
    iexact H16
  · unfold kept wrTok
    iintro ⟨H, H15, H16⟩
    isplitl [H15]; · iexact H15
    isplitl [H16]; · iexact H16
    iexact H

/-- Everything dealt. -/
theorem deal :
    iprop((bigSep Finset.univ fun c : Dev nD => bigSep Finset.univ fun k : Kc => atPos ER (kcell c k) 0 ∅ 0)
        ∗ (bigSep ringToks fun x => dutyTok ER x.1 x.2.1 x.2.2)
        ∗ (bigSep Finset.univ fun x : Key => readerAt ES x 0)
        ∗ bigSep ((Finset.univ : Finset Key) ×ˢ Finset.range 9) fun x => writeTok ES x.1 (x.2 + 1))
      ⊢ (bigSep Finset.univ fun c : Dev nD => Ghost c : sProp 𝕄) := by
  have hsend (c : Dev nD) (j : Fin 4) : (sendToks c j : ℕ → sProp 𝕄) = fun i => iprop(wrTok (nxt j c) j i ∗ sndTok c j i ∗ rcvTok (nxt j c) j i) := rfl
  have hcrd (c : Dev nD) (j : Fin 4) : (crdTok c j : ℕ → sProp 𝕄) = ownCrdTok (prv j c) j := rfl
  have hread : (bigSep Finset.univ fun x : Key => (readerAt ES x 0 : sProp 𝕄))
      = bigSep Finset.univ fun c : Dev nD => bigSep Finset.univ fun j : Fin 4 => iprop(readerAt ES (c, j, 0) 0 ∗ readerAt ES (c, j, 1) 0) := by
    rw [bigSep_univ_prod]
    refine bigSep_congr fun c _ => ?_
    rw [bigSep_univ_prod]
    exact bigSep_congr fun j _ => bigSep_univ_eq_bigSepL [(0 : Fin 2), 1] (by decide) (by decide) _
  rw [over_toks, hread]
  iintro ⟨Hat, Htok, Hrd, Hwr⟩
  ihave Hwr := over_writes $$ Hwr
  unfold Ghost barGhost ringGhost
  simp only [hsend, hcrd, bigSep_sep', cells_split]
  icases Hat with ⟨HaB, HaS0, HaS1, HaR0, HaR1, HaC⟩
  icases Htok with ⟨⟨HtB0, HtB1⟩, HtS, HtR, HtC⟩
  icases Hrd with ⟨Hr0, Hr1⟩
  icases Hwr with ⟨Hw, Hkept⟩
  ihave HtB0 := (Entails.of_eq (bigSep_univ_equiv alongRight.symm fun c : Dev nD => (dutyTok ER (kcell c bar) 0 0 : sProp 𝕄))) $$ HtB0
  ihave HtB1 := (Entails.of_eq (bigSep_univ_equiv alongRight fun c : Dev nD => (dutyTok ER (kcell c bar) 0 1 : sProp 𝕄))) $$ HtB1
  ihave HtR := (Entails.of_eq (deal_next fun (c : Dev nD) (j : Fin 4) => bigSep (Finset.Ico 0 15) (rcvTok (F := F) c j))) $$ HtR
  ihave HtC := (Entails.of_eq (deal_prev fun (c : Dev nD) (j : Fin 4) => bigSep (Finset.Ico 0 13) (ownCrdTok (F := F) c j))) $$ HtC
  ihave Hw := (Entails.of_eq (deal_next fun (c : Dev nD) (j : Fin 4) => bigSep (Finset.Ico 0 15) (wrTok (F := F) c j))) $$ Hw
  isplitl [HtB0 HtB1 HaB]
  · isplitl [HtB0]; · iexact HtB0
    isplitl [HtB1]; · iexact HtB1
    iexact HaB
  isplitl [HaS0 HaS1]
  · isplitl [HaS0]; · iexact HaS0
    iexact HaS1
  isplitl [HaR0 HaR1]
  · isplitl [HaR0]; · iexact HaR0
    iexact HaR1
  isplitl [HaC]; · iexact HaC
  isplitl [Hr0 Hr1]
  · isplitl [Hr0]; · iexact Hr0
    iexact Hr1
  isplitl [Hkept]; · iexact Hkept
  isplitl [Hw HtS HtR]
  · isplitl [Hw]; · iexact Hw
    isplitl [HtS]; · iexact HtS
    iexact HtR
  iexact HtC

end Cert.KernelIdeal.Rings

end
-- ==== Proof.Fund.lean ====
/-
# The launch's resources

The element of the launch and what it funds (`fund_rings`), the allocation of the cells' invariants with all semaphores at
hand (`glob`), and the credits of each device's waits (`creds`).
-/
module

public import proofs.«01_k».proof.Proof.Deal

@[expose] public section

set_option maxRecDepth 8000

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slotInv readerAt released writeTok initSlots slots_init USlots)

variable {F : FTy → Type} [FloatOps F]

local notation "𝕄" => MT nD τ sig ℕ (Elt F) ℕ UU ℕ

variable (xs : Dev nD → Vec F S4096x256 .i8) (ws : Dev nD → Vec F S256x2048 .i8)

/-! ## The element -/

def u₀ : UU :=
  (initOf (Pipeline.cells cfgs cellOf_inj) (Pipeline.launchToks cfgs cellOf_inj),
    (initOf ringCells ringToks, initSlots (Finset.univ : Finset Key) 9))

def slotRecs (S : Key → ℕ) : sProp 𝕄 := bigSep Finset.univ fun x : Key => slotInv ES (S x) x (slotAny x.1 (rbM x.2.1) x.2.2)
def cellRecs (K : Dev nD × Kc → ℕ) : sProp 𝕄 := bigSep Finset.univ fun ck : Dev nD × Kc => cellInv ER (ringRd xs ws) (K ck) (kcell ck.1 ck.2)
def startRecs : sProp 𝕄 := bigSep Finset.univ fun ck : Dev nD × Kc => reached ER (kcell ck.1 ck.2) 0

instance slotRecs_persistent (S : Key → ℕ) : BI.Persistent (slotRecs (F := F) S) := by unfold slotRecs; infer_instance
instance cellRecs_persistent (K : Dev nD × Kc → ℕ) : BI.Persistent (cellRecs xs ws K) := by unfold cellRecs; infer_instance
instance startRecs_persistent : BI.Persistent (startRecs (F := F)) := by unfold startRecs; infer_instance

/-- What the element funds on device `c`, before the cells' invariants are made; -/
def G (c : Dev nD) : sProp 𝕄 :=
  iprop((bigSep Finset.univ fun k : Kc => roundState ER (ringRd xs ws) (kcell c k) 0) ∗ startRecs ∗ (∃ S, slotRecs S) ∗ Ghost c)
/-- and after. -/
def G' (c : Dev nD) : sProp 𝕄 := iprop(∃ K S, (cellRecs xs ws K ∗ slotRecs S ∗ startRecs) ∗ Ghost c)

theorem fund_rings : BI.own (EX (initOf ringCells ringToks, initSlots (Finset.univ : Finset Key) 9))
    ⊢ (|={Set.univ}=> bigSep Finset.univ (G xs ws) : sProp 𝕄) := by
  iintro H
  ihave H := (own_pair_emb EX _ _) $$ H
  icases H with ⟨HX, HS⟩
  imod (Rounds.fund ER (ringRd xs ws) ringCells ringToks) $$ HX with ⟨Hst, Hr, Hat, Htok⟩
  imod (slots_init ES (Finset.univ : Finset Key) 9 fun x : Key => slotAny (F := F) x.1 (rbM x.2.1) x.2.2) $$ HS with ⟨%S, -, Hinv, Hrd, Hwr⟩
  imodintro
  ihave Hst := (Entails.of_eq (over_cells fun g => roundState ER (ringRd xs ws) g 0)) $$ Hst
  ihave Hr := (Entails.of_eq ((over_cells fun g => (reached ER g 0 : sProp 𝕄)).trans
    (bigSep_univ_prod fun ck : Dev nD × Kc => (reached ER (kcell ck.1 ck.2) 0 : sProp 𝕄)).symm)) $$ Hr
  ihave Hat := (Entails.of_eq (over_cells fun g => (atPos ER g 0 ∅ 0 : sProp 𝕄))) $$ Hat
  ihave HG := (deal (F := F)) $$ [Hat Htok Hrd Hwr]
  · isplitl [Hat]; · iexact Hat
    isplitl [Htok]; · iexact Htok
    isplitl [Hrd]; · iexact Hrd
    iexact Hwr
  iapply (each_with (R := iprop(startRecs ∗ slotRecs S))
    (Φ := fun c : Dev nD => iprop((bigSep Finset.univ fun k : Kc => roundState ER (ringRd xs ws) (kcell c k) 0) ∗ Ghost c)) fun c _ => by
      unfold G
      iintro ⟨⟨Hr, Hs⟩, Hst, HG⟩
      isplitl [Hst]; · iexact Hst
      isplitl [Hr]; · iexact Hr
      isplitl [Hs]; · iexists S; iexact Hs
      iexact HG)
  isplitl [Hr Hinv]
  · unfold startRecs slotRecs
    isplitl [Hr]; · iexact Hr
    iexact Hinv
  rw [bigSep_sep']
  isplitl [Hst]; · iexact Hst
  iexact HG

/-! ## The semaphores -/

/-- The kernel's own semaphores. -/
abbrev osem : Fin 4 × Fin 5 → SemLoc sig := fun x => semK (.inr x)

theorem ownSemFacts : Pipeline.OwnSemFacts cfg0.spec osem := by decide +kernel

theorem unscopedSems0_eq (c : Dev nD) : (unscopedSems0 c : sProp 𝕄) = semVal (kcell c bar) 0 := by
  unfold unscopedSems0; rw [bigSep_eq_bigSepL_of_eq [SemLoc.reg barS] (by decide) (by decide)]; rfl

/-- A device's semaphores at zero, cell by cell. -/
theorem sems0 (c : Dev nD) :
    iprop(Pipeline.ownSems0 (Ix := ℕ) (Name := ℕ) (U := UU) (Lvl := ℕ) (Val := Elt F) (τ := τ) osem c ∗ unscopedSems0 c)
      ⊢ (bigSep Finset.univ fun k : Kc => semVal (kcell c k) 0 : sProp 𝕄) := by
  rw [unscopedSems0_eq, bigSep_univ_sum,
    show (bigSep Finset.univ fun a : Unit => (semVal (kcell c (.inl a)) 0 : sProp 𝕄)) = semVal (kcell c bar) 0 from
      bigSep_univ_eq_bigSepL [()] (by decide) (by decide) _]
  unfold Pipeline.ownSems0
  show _ ⊢ iprop(semVal (kcell c bar) 0 ∗ bigSep Finset.univ fun b : Fin 4 × Fin 5 => semVal (kcell c (.inr b)) 0)
  iintro ⟨Ho, Hb⟩
  isplitl [Hb]; · iexact Hb
  iexact Ho

/-- and back, from the cells as the body leaves them. -/
theorem sems_back (c : Dev nD) : (Zeros c : sProp 𝕄)
    ⊢ iprop(unscopedSems0 c ∗ Pipeline.ownSems0 (Ix := ℕ) (Name := ℕ) (U := UU) (Lvl := ℕ) (Val := Elt F) (τ := τ) osem c) := by
  rw [unscopedSems0_eq]
  unfold Zeros Pipeline.ownSems0
  rw [bigSep_univ_prod]
  refine sep_mono_right (Entails.of_eq (bigSep_congr fun j _ => ?_))
  exact (bigSep_univ_eq_bigSepL [(0 : Fin 5), 1, 2, 3, 4] (by decide) (by decide) fun i : Fin 5 =>
    (semVal (kcell c (.inr (j, i))) 0 : sProp 𝕄)).symm

/-- All devices' semaphores at once make all cells' invariants. -/
theorem glob : (bigSep Finset.univ fun c => iprop(Pipeline.ownSems0 (Ix := ℕ) (Name := ℕ) (U := UU) (Lvl := ℕ) (Val := Elt F) (τ := τ) osem c
      ∗ unscopedSems0 c ∗ G xs ws c) : sProp 𝕄) ⊢ |={Set.univ}=> bigSep Finset.univ (G' xs ws) := by
  have halloc (c : Dev nD) : iprop(Pipeline.ownSems0 (Ix := ℕ) (Name := ℕ) (U := UU) (Lvl := ℕ) (Val := Elt F) (τ := τ) osem c ∗ unscopedSems0 c ∗ G xs ws c)
      ⊢ |={Set.univ}=> iprop((bigSep Finset.univ fun k : Kc => iprop(∃ κ : ℕ, cellInv ER (ringRd xs ws) κ (kcell c k)))
        ∗ startRecs ∗ (∃ S, slotRecs S) ∗ Ghost c) := by
    unfold G
    iintro ⟨Ho, Hu, Hst, HR⟩
    ihave Hv := (sems0 (F := F) c) $$ [Ho Hu]
    · isplitl [Ho] <;> iassumption
    imod (show iprop((bigSep Finset.univ fun k : Kc => semVal (kcell c k) 0) ∗ bigSep Finset.univ fun k : Kc => roundState ER (ringRd xs ws) (kcell c k) 0)
        ⊢ (|={Set.univ}=> bigSep Finset.univ fun k : Kc => iprop(∃ κ : ℕ, cellInv ER (ringRd xs ws) κ (kcell c k)) : sProp 𝕄) from by
          rw [← bigSep_sep']
          exact (bigSep_mono fun k _ => (Rounds.body_intro ER (ringRd xs ws) (kcell c k)).trans inv_alloc).trans (bigSep_fupd _ _)) $$ [Hv Hst] with Hinv
    · isplitl [Hv] <;> iassumption
    imodintro
    isplitl [Hinv]; · iexact Hinv
    iexact HR
  have hre : (bigSep Finset.univ fun c => iprop((bigSep Finset.univ fun k : Kc => iprop(∃ κ : ℕ, cellInv ER (ringRd xs ws) κ (kcell c k)))
        ∗ startRecs ∗ (∃ S, slotRecs S) ∗ Ghost c) : sProp 𝕄) ⊢ bigSep Finset.univ (G' xs ws) := by
    rw [bigSep_sep', ← bigSep_univ_prod (fun ck : Dev nD × Kc => iprop(∃ κ : ℕ, cellInv ER (ringRd xs ws) κ (kcell ck.1 ck.2)))]
    iintro ⟨HI, HR⟩
    ihave HK := (BI.bigSep_exists_pi Finset.univ (fun (ck : Dev nD × Kc) (κ : ℕ) => (cellInv ER (ringRd xs ws) κ (kcell ck.1 ck.2) : sProp 𝕄))) $$ HI
    icases HK with ⟨%K, #HI⟩
    iapply (each_with (R := cellRecs xs ws K) (Φ := fun c : Dev nD => iprop(startRecs ∗ (∃ S, slotRecs S) ∗ Ghost c)) fun c _ => by
      unfold G'
      iintro ⟨Hc, Hs, ⟨%S, HS⟩, HG⟩
      iexists K, S
      isplitr [HG]
      · isplitl [Hc]; · iexact Hc
        isplitl [HS]; · iexact HS
        iexact Hs
      iexact HG)
    isplitr
    · unfold cellRecs; iexact HI
    iexact HR
  exact ((bigSep_mono fun c _ => halloc c).trans (bigSep_fupd _ _)).trans (BI.fupd_mono hre)

/-! ## The credits -/

/-- The sixty hops, ring by ring. -/
theorem by_ring (Ψ : Fin 4 → ℕ → sProp 𝕄) :
    (bigSep (Finset.Ico 0 60) fun t => Ψ (rg t) (t / 4)) = bigSep Finset.univ fun j : Fin 4 => bigSep (Finset.Ico 0 15) (Ψ j) := by
  rw [← fin_Ico 60 fun t => Ψ (rg t) (t / 4), bigSep_univ_equiv (finProdFinEquiv : Fin 15 × Fin 4 ≃ Fin 60), bigSep_univ_prod, Pipeline.bigSep_univ_comm]
  refine bigSep_congr fun j _ => ?_
  rw [← fin_Ico 15 (Ψ j)]
  refine bigSep_congr fun h _ => ?_
  have hj := j.isLt
  show Ψ (rg (j.val + 4 * h.val)) ((j.val + 4 * h.val) / 4) = Ψ j h.val
  rw [show rg (j.val + 4 * h.val) = j from Fin.ext (by show (j.val + 4 * h.val) % 4 = j.val; omega), show (j.val + 4 * h.val) / 4 = h.val by omega]

theorem cred_copy (c : Dev nD) (j : Fin 4) (h : ℕ) : (Pipeline.launchCred (fun d => copyOwe d j h) c : sProp 𝕄) ⊢ rcvCred c j h :=
  Pipeline.launchCred_tallyAt (semK (rcv j (sl h))) (nxt j) (prv j) (nxt_prv j) (prv_nxt j) h N c

theorem cred_credits (c : Dev nD) (j : Fin 4) :
    (bigSep (Finset.Ico 0 15) fun h => (Pipeline.launchCred (fun d => credOwe d j h) c : sProp 𝕄)) ⊢ bigSep (Finset.Ico 0 13) (crdCred c j) := by
  refine (BI.bigSep_subset (t := (Finset.Ico 0 13).map ⟨Nat.succ, Nat.succ_injective⟩) (by decide)).trans ?_
  rw [bigSep_map]
  refine bigSep_mono fun k hk => ?_
  have hk' : k < 13 := (Finset.mem_Ico.mp hk).2
  show (Pipeline.launchCred (fun d => credOwe d j (k + 1)) c : sProp 𝕄) ⊢ crdCred c j k
  unfold credOwe crdCred
  rw [show (fun d : Dev nD => if 1 ≤ k + 1 ∧ k + 1 ≤ 13 then (tallyAt (kcell (prv j d) (crd j)) (k + 1 - 1) 1 : CellTallies nD τ sig ℕ) else 0)
    = fun d => tallyAt (kcell (prv j d) (crd j)) k 1 from funext fun d => by rw [if_pos ⟨by omega, by omega⟩, Nat.add_sub_cancel]]
  exact Pipeline.launchCred_tallyAt (semK (crd j)) (prv j) (nxt j) (prv_nxt j) (nxt_prv j) k 1 c

/-- The credits the launch deals device `c` are those of its waits. -/
theorem creds (c : Dev nD) : (Pipeline.launchCred O₀ c : sProp 𝕄) ⊢ Creds c := by
  rw [show (O₀ : Dev nD → CellTallies nD τ sig ℕ) = fun d => ((∑ i ∈ Finset.Ico 0 60, (copyOwe d (rg i) (i / 4) + credOwe d (rg i) (i / 4)))
    + tallyAt (kcell (right d) bar) 0 1) + tallyAt (kcell (left d) bar) 0 1 from rfl, Pipeline.launchCred_add, Pipeline.launchCred_add,
    Pipeline.launchCred_sum, bigSep_congr fun i _ => Pipeline.launchCred_add (fun d => copyOwe d (rg i) (i / 4)) (fun d => credOwe d (rg i) (i / 4)) c,
    bigSep_sep', by_ring fun j h => Pipeline.launchCred (fun d => copyOwe d j h) c, by_ring fun j h => Pipeline.launchCred (fun d => credOwe d j h) c]
  have hcp : (bigSep Finset.univ fun j : Fin 4 => bigSep (Finset.Ico 0 15) fun h => (Pipeline.launchCred (fun d => copyOwe d j h) c : sProp 𝕄))
      ⊢ bigSep Finset.univ fun j : Fin 4 => bigSep (Finset.Ico 0 15) (rcvCred c j) := bigSep_mono fun j _ => bigSep_mono fun h _ => cred_copy c j h
  have hcr : (bigSep Finset.univ fun j : Fin 4 => bigSep (Finset.Ico 0 15) fun h => (Pipeline.launchCred (fun d => credOwe d j h) c : sProp 𝕄))
      ⊢ bigSep Finset.univ fun j : Fin 4 => bigSep (Finset.Ico 0 13) (crdCred c j) := bigSep_mono fun j _ => cred_credits c j
  iintro ⟨⟨⟨Hcp, Hcr⟩, Hr⟩, Hl⟩
  ihave Hcp := hcp $$ Hcp
  ihave Hcr := hcr $$ Hcr
  ihave Hr := (Pipeline.launchCred_tallyAt (semK bar) right left right_left left_right 0 1 c) $$ Hr
  ihave Hl := (Pipeline.launchCred_tallyAt (semK bar) left right left_right right_left 0 1 c) $$ Hl
  unfold Creds ringCreds
  isplitl [Hr Hl]
  · iapply (show iprop(cred (tallyAt (kcell c bar) 0 1) ∗ cred (tallyAt (kcell c bar) 0 1)) ⊢ (cred (tallyAt (kcell c bar) 0 2) : sProp 𝕄) from by
      rw [show (tallyAt (kcell c bar) 0 2 : CellTallies nD τ sig ℕ) = tallyAt (kcell c bar) 0 1 + tallyAt (kcell c bar) 0 1 from
        (tallyAt_add _ _ 1 1).symm]
      exact (cred_add _ _).2)
    isplitl [Hr]; · iexact Hr
    iexact Hl
  rw [bigSep_sep']
  isplitl [Hcp]; · iexact Hcp
  iexact Hcr

end Cert.KernelIdeal.Rings

end
-- ==== Proof.Launch.lean ====
/-
# The run

From any memory with all counters at zero, for any float values, every fair execution of the program on the sixteen devices
ends; each device's result array is then `resV` of the sixteen devices' operands, its operands are unchanged, and every
counter is back at zero.
-/
module

public import proofs.«01_k».proof.Proof.Fund
public import proofs.«01_k».proof.Proof.Gen.KernelIdeal.Points
public import proofs.«01_k».proof.Proof.Gen.KernelIdeal.Launch
public import Idealize.ShloMosaic.Lib.Pipeline.CollectiveSegs

@[expose] public section

set_option maxRecDepth 8000

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg)

/-! ## The operands and the pipeline's data -/

def s₀ : MemSt nD τ sig (Elt F) := ⟨m, fun _ => 0, ρ⟩

def xsOf (c : Dev nD) : Vec F S4096x256 .i8 := (win0_0.blk (0 : Fin 1)).view.read (Elt F) ((s₀ m ρ).mem ((c : Thread nD τ).loc main_arg0))
def wsOf (c : Dev nD) : Vec F S256x2048 .i8 := (win0_1.blk (0 : Fin 1)).view.read (Elt F) ((s₀ m ρ).mem ((c : Thread nD τ).loc main_arg1))
def saOf (c : Dev nD) : Vec F S1 .f32 := (win0_2.blk (0 : Fin 1)).view.read (Elt F) ((s₀ m ρ).mem ((c : Thread nD τ).loc main_arg2))
def sbOf (c : Dev nD) : Vec F S1 .f32 := (win0_3.blk (0 : Fin 1)).view.read (Elt F) ((s₀ m ρ).mem ((c : Thread nD τ).loc main_arg3))

/-- The result block of device `c`. -/
def outOf (c : Dev nD) : Vec F S256x2048 .f32 := resV (xsOf m ρ) (wsOf m ρ) (scl (saOf m ρ c)) (scl (sbOf m ρ c)) c

def start (c : Dev nD) : sProp 𝕄 := iprop(G' (xsOf m ρ) (wsOf m ρ) c ∗ Creds c ∗ levAts L lv)
def Φ₀ (c : Dev nD) : sProp 𝕄 := iprop(start m ρ c ∗ Scr c)
def Φ₁ (c : Dev nD) : sProp 𝕄 := iprop(Zeros c ∗ Scr c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xsOf m ρ c
    | ⟨1, _⟩ => wsOf m ρ c
    | ⟨2, _⟩ => saOf m ρ c
    | ⟨3, _⟩ => sbOf m ρ c
    | ⟨4, _⟩ => outOf m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-- A whole buffer at contents `X`. -/
theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

/-! ## The body's obligation -/

def bodyPre (c : Dev nD) : sProp 𝕄 :=
  iprop(Φ₀ m ρ c ∗ (dats m ρ 0 c).owesAt 0 t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt 0 t0_0.succ ∗ stg c cc0_stg0_0 (xsOf m ρ c) ∗ stg c cc0_stg1_0 (wsOf m ρ c) ∗ stg c cc0_stg2_0 (saOf m ρ c)
    ∗ stg c cc0_stg3_0 (sbOf m ρ c) ∗ stg c cc0_stg4_0 (outOf m ρ c))

/-- What a fetched window's buffer holds when the body starts: the operand. -/
theorem before_x (c : Dev nD) (d) : (dats m ρ 0 c).before (0 : Fin 5) t0_0 d = xsOf m ρ c := by
  unfold Dat.before; rw [if_pos (fetch0_0 t0_0)]; rfl
theorem before_w (c : Dev nD) (d) : (dats m ρ 0 c).before (1 : Fin 5) t0_0 d = wsOf m ρ c := by
  unfold Dat.before; rw [if_pos (fetch0_1 t0_0)]; rfl
theorem before_sa (c : Dev nD) (d) : (dats m ρ 0 c).before (2 : Fin 5) t0_0 d = saOf m ρ c := by
  unfold Dat.before; rw [if_pos (fetch0_2 t0_0)]; rfl
theorem before_sb (c : Dev nD) (d) : (dats m ρ 0 c).before (3 : Fin 5) t0_0 d = sbOf m ρ c := by
  unfold Dat.before; rw [if_pos (fetch0_3 t0_0)]; rfl

/-- The kept facts, gathered. -/
theorem recs_of (xs : Dev nD → Vec F S4096x256 .i8) (ws : Dev nD → Vec F S256x2048 .i8) (K : Dev nD × Kc → ℕ) (S : Key → ℕ) :
    iprop(cellRecs xs ws K ∗ slotRecs S ∗ startRecs ∗ levAts L lv) ⊢ recs xs ws K S := by
  unfold recs cellRecs slotRecs startRecs
  exact .rfl

theorem body_run (c : Dev nD) : bodyPre m ρ c ⊢ Wp c body (fun _ => bodyPost m ρ c) := by
  unfold bodyPre Φ₀ start G'
  iintro ⟨⟨⟨⟨%K, %S, ⟨#HK, #HS, #Hst⟩, HG⟩, HC, #Hlev⟩, HScr⟩, Ho, ⟨%d0, %g0, %hg0, Hx⟩, ⟨%d1, %g1, %hg1, Hw⟩, ⟨%d2, %g2, %hg2, Hsa⟩, ⟨%d3, %g3, %hg3, Hsb⟩, %d4, %g4, %hg4, Hout⟩
  rw [before_x] at hg0
  rw [before_w] at hg1
  rw [before_sa] at hg2
  rw [before_sb] at hg3
  subst hg0 hg1 hg2 hg3
  unfold Dat.owesAt Pipeline.owesWithin
  icases Ho with ⟨%W, %hW, HO⟩
  iapply (body_rule (xsOf m ρ) (wsOf m ρ) K S c (saOf m ρ c) (sbOf m ρ c) (W := W) (fun _ => bodyPost m ρ c)) $$ [HG HC HScr HO Hx Hw Hsa Hsb Hout]
  · isplitr
    · iapply (recs_of (xsOf m ρ) (wsOf m ρ) K S)
      isplitr; · iexact HK
      isplitr; · iexact HS
      isplitr; · iexact Hst
      iexact Hlev
    isplitl [HG]; · iexact HG
    isplitl [HC]; · iexact HC
    isplitl [HScr]; · iexact HScr
    isplitl [HO]; · iexact HO
    isplitl [Hx Hw Hsa Hsb]
    · unfold Ins xStg wStg sxStg swStg
      isplitl [Hx]; · iexact Hx
      isplitl [Hw]; · iexact Hw
      isplitl [Hsa]; · iexact Hsa
      iexact Hsb
    iexists g4
    unfold oPts
    iexact Hout
  unfold Ins xStg wStg sxStg swStg oPts
  iintro ⟨⟨%W', HO⟩, HZ, HScr, ⟨Hx, Hw, Hsa, Hsb⟩, Hout⟩
  unfold bodyPost Φ₁ Dat.owesAt Pipeline.owesWithin
  isplitl [HZ HScr]
  · isplitl [HZ]; · iexact HZ
    iexact HScr
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsa]
  · iexists _; isplitr; · (ipureintro; rfl)
    iexact Hsa
  isplitl [Hsb]
  · iexists _; isplitr; · (ipureintro; rfl)
    iexact Hsb
  iexists _; isplitr; · (ipureintro; rfl)
  iexact Hout

/-- The pipeline's call, at its one point, is the body. -/
theorem body_at : defs₀ (F := F) .tc 0 (t0_0, cfg0.slots t0_0) = body :=
  (show defs₀ (F := F) .tc 0 (t0_0, cfg0.slots t0_0) = bodyAt0 (F := F) t0_0 from by with_unfolding_all sl_kernel_rfl).trans (body_eq t0_0)

theorem body_obligation (c : Dev nD) : BodyObligation (dats (F := F) m ρ 0 c) (defs₀ (F := F)) 𝒱₀ 0 Set.univ := fun t => by
  rw [fin_N0 t]
  rw [bigSep_W0, bigSep_W0]
  simp only [owns_whole]
  rw [body_at]
  have h := body_run m ρ c
  revert h
  generalize body (F := F) = p
  exact fun h => h

/-! ## The launch's side conditions -/

/-- The scratch buffers are the launch's scoped buffers that stage no window, in the order the launch lists them. -/
theorem scr_list (c : Dev nD) : (Pipeline.scopedRest cfg0.spec c : sProp 𝕄)
    = iprop((∃ f, xPts c f) ∗ (∃ g, wPts c g) ∗ bufAny c (sbM 0) ∗ bufAny c (rbM 0) ∗ bufAny c (sbM 1) ∗ bufAny c (rbM 1)
        ∗ bufAny c (sbM 2) ∗ bufAny c (rbM 2) ∗ bufAny c (sbM 3) ∗ bufAny c (rbM 3)) :=
  scopedRest0_eq c

theorem scr_of (c : Dev nD) : (Pipeline.scopedRest cfg0.spec c : sProp 𝕄) ⊢ Scr c := by
  rw [scr_list]
  unfold Scr
  rw [fin4]
  iintro ⟨Hx, Hw, H0, H1, H2, H3, H4, H5, H6, H7⟩
  isplitl [Hx]; · iexact Hx
  isplitl [Hw]; · iexact Hw
  isplitl [H0 H1]; · (isplitl [H0] <;> iassumption)
  isplitl [H2 H3]; · (isplitl [H2] <;> iassumption)
  isplitl [H4 H5]; · (isplitl [H4] <;> iassumption)
  isplitl [H6] <;> iassumption

theorem scr_back (c : Dev nD) : (Scr c : sProp 𝕄) ⊢ Pipeline.scopedRest cfg0.spec c := by
  rw [scr_list]
  unfold Scr
  rw [fin4]
  iintro ⟨Hx, Hw, ⟨H0, H1⟩, ⟨H2, H3⟩, ⟨H4, H5⟩, H6, H7⟩
  isplitl [Hx]; · iexact Hx
  isplitl [Hw]; · iexact Hw
  isplitl [H0]; · iexact H0
  isplitl [H1]; · iexact H1
  isplitl [H2]; · iexact H2
  isplitl [H3]; · iexact H3
  isplitl [H4]; · iexact H4
  isplitl [H5]; · iexact H5
  isplitl [H6] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xsOf m ρ) (wsOf m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scr_of c); iexact Hr

theorem phi1_exit (c : Dev nD) :
    (dats m ρ 0 c).Φ (Fin.last cfg0.N) ⊢ iprop(unscopedSems0 c
      ∗ Pipeline.ownSems0 (Ix := ℕ) (Name := ℕ) (U := UU) (Lvl := ℕ) (Val := Elt F) (τ := τ) osem c ∗ Pipeline.scopedRest cfg0.spec c) := by
  rw [show (dats m ρ 0 c).Φ (Fin.last cfg0.N) = Φ₁ c from rfl]
  unfold Φ₁
  iintro ⟨HZ, HS⟩
  ihave H := (sems_back (F := F) c) $$ HZ
  icases H with ⟨Hu, Ho⟩
  isplitl [Hu]; · iexact Hu
  isplitl [Ho]; · iexact Ho
  iapply (scr_back c); iexact HS

theorem kOf_stage (q : DmaSem sig) (hq : ∀ k, semK k ≠ .dma q) : kOf (.dma q) = none := by
  unfold kOf; rw [dif_neg (fun ⟨k, h⟩ => hq k h)]

theorem waits (c : Dev nD) : (levAts L lv : sProp 𝕄) ⊢ Pipeline.cellsWaits cfgs (dats m ρ) 0 0 c :=
  Pipeline.cellsWaits_intro cfgs (dats m ρ) 0 0 c fun w s t => by
    have hab : Above 0 ((dats m ρ 0 c).owed t) := by
      rcases t with ⟨_ | _, ht⟩
      · exact ((above_owed c (by omega)).add (Above.tally _ _ _ _ (by decide) (by decide))).add (Above.tally _ _ _ _ (by decide) (by decide))
      · exact Above.zero 0
    refine MayOwe.of_cut (L := L) (lev := lv) 0 (fun p hp => by rw [Finset.mem_singleton.mp hp, L_tc]; exact Finset.mem_range.mpr (show 0 < 15 by decide))
      (fun g u hg => (hab g u hg).1) (fun p hp => ?_) (fun g u hg => (hab g u hg).2)
    rw [Finset.mem_singleton.mp hp]
    have hn : kOf (SemLoc.dma ((cfg0.win w).sem s)) = none := kOf_stage _ (by clear hp; revert w s; decide +kernel)
    refine le_of_eq ?_
    unfold lv keyOf
    rw [if_pos rfl, hn]
    rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl) (hbody := fun c => (body_obligation m ρ c).loose) (hne := block_pos0)
    (harr := arr_whole0) (hstage := stage_whole0) (hshare := share_eq m ρ)
    (hdistinct := winFacts0.arr_inj) (O₀ := O₀) (howed₀ := fun _ => rfl) (howedN := fun _ => rfl)
    (L := L) (lv := lv) (hL := L_of_ne) (hwaits := waits m ρ)
    (G := G (xsOf m ρ) (wsOf m ρ)) (G' := G' (xsOf m ρ) (wsOf m ρ)) (u₀ := u₀)
    (hu₀ := by
      unfold u₀
      iintro Hu
      ihave H := (ownU_pair _ _) $$ Hu
      icases H with ⟨HP, HX⟩
      imod (fund_rings (xsOf m ρ) (wsOf m ρ)) $$ HX with HG
      imodintro
      isplitl [HP] <;> iassumption)
    (hglob := glob (xsOf m ρ) (wsOf m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Rings

end
-- ==== Proof.Ends.lean ====
/-
# The memory at the end of a run

What `run_main` says of the arrays that the claims name: each device's four operands are as they were, and its result array
is the block `outOf`.
-/
module

public import proofs.«01_k».proof.Proof.Launch

@[expose] public section

set_option maxRecDepth 8000

noncomputable section

namespace Cert.KernelIdeal.Rings

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The operands are only read. -/
theorem end_x (c : Dev nD) : finalA m ρ c 0 = m ((c.tc : Thread nD τ).loc main_arg0) := (dats m ρ 0 c).arrAt_in 0 rfl _
theorem end_w (c : Dev nD) : finalA m ρ c 1 = m ((c.tc : Thread nD τ).loc main_arg1) := (dats m ρ 0 c).arrAt_in 1 rfl _
theorem end_sa (c : Dev nD) : finalA m ρ c 2 = m ((c.tc : Thread nD τ).loc main_arg2) := (dats m ρ 0 c).arrAt_in 2 rfl _
theorem end_sb (c : Dev nD) : finalA m ρ c 3 = m ((c.tc : Thread nD τ).loc main_arg3) := (dats m ρ 0 c).arrAt_in 3 rfl _

/-- A window that is a whole array reads it whole. -/
theorem x_eq (c : Dev nD) : xsOf m ρ c = m ((c.tc : Thread nD τ).loc main_arg0) :=
  Memref.read_access_unit_zero (Elt F) main_arg0 (funext fun a => by fin_cases a <;> decide) (fun a => by fin_cases a <;> decide) _
theorem w_eq (c : Dev nD) : wsOf m ρ c = m ((c.tc : Thread nD τ).loc main_arg1) :=
  Memref.read_access_unit_zero (Elt F) main_arg1 (funext fun a => by fin_cases a <;> decide) (fun a => by fin_cases a <;> decide) _
theorem sa_eq (c : Dev nD) : saOf m ρ c = m ((c.tc : Thread nD τ).loc main_arg2) :=
  Memref.read_access_unit_zero (Elt F) main_arg2 (funext fun a => by fin_cases a <;> decide) (fun a => by fin_cases a <;> decide) _
theorem sb_eq (c : Dev nD) : sbOf m ρ c = m ((c.tc : Thread nD τ).loc main_arg3) :=
  Memref.read_access_unit_zero (Elt F) main_arg3 (funext fun a => by fin_cases a <;> decide) (fun a => by fin_cases a <;> decide) _

/-- The one block written back is the whole result array. -/
theorem end_out (c : Dev nD) : finalA m ρ c 4 = outOf m ρ c := by
  have hr : (win0_4.blk (0 : Fin 1)).view.read (Elt F) (finalA m ρ c 4) = outOf m ρ c := by
    unfold finalA
    rw [show cfg0.N = ((0 : Fin 1) : Fin cfg0.N).val + 1 from rfl, (dats m ρ 0 c).arrAt_succ 4 (0 : Fin 1),
      show (cfg0.win 4).flush (0 : Fin 1) = true from flush0_4 _, if_pos rfl]
    exact View.read_write_univ _ _
  rw [← hr]
  exact (Memref.read_access_unit_zero (Elt F) main_v1 (funext fun a => by fin_cases a <;> decide) (fun a => by fin_cases a <;> decide) _).symm

/-- Every execution ends with the operands as they were, the result block of each device in its result array, and every
    counter at zero. -/
theorem run_ends : θ_run defs (onTc (τ := τ) (main (F := F))) ⟨m, fun _ => 0, ρ⟩ (fun r =>
    (∀ c : Dev nD, r.2.mem ((c.tc : Thread nD τ).loc main_v1) = outOf m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c 4).trans (end_out m ρ c), (h.1 c 0).trans (end_x m ρ c), (h.1 c 1).trans (end_w m ρ c),
      (h.1 c 2).trans (end_sa m ρ c), (h.1 c 3).trans (end_sb m ρ c)⟩, h.2⟩)
    (run_main m ρ)

/-- The program runs, leaves its operands as they were and ends with every counter at zero. -/
def Quiescent (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0)

theorem run_quiescent : Quiescent F := fun m ρ _ =>
  (θ_run defs _ _).mono (fun _ h => ⟨fun c => (h.1 c).2, h.2⟩) (run_ends m ρ)

end Cert.KernelIdeal.Rings

end
-- ==== Proof.Sums.lean ====
/-
# What the rings add up, over the reals

Over the reals a change of format is the identity, so a device's share of a block is a plain sum of products of the integers
it holds; what comes round a ring is the sum of the shares of the devices behind, and with the device's own share it is the sum
over all sixteen.
-/
module

public import proofs.«01_k».proof.Proof.Ends
public import Idealize.ShloMosaic.Lib.MatmulPlain
public import Idealize.ShloMosaic.Lib.IdealHost
public import Idealize.ShloMosaic.Lib.ValueIdx

@[expose] public section

set_option maxRecDepth 8000

noncomputable section

namespace Cert.KernelIdeal.Rings

open Cert.KernelIdeal Cert.KernelIdeal.Gen
open Idealize.ShloMosaic Idealize.ShloMosaic.TcCoe Idealize.ShloMosaic.ValueIdx
open scoped BigOperators

/-- A signed integer as a real. -/
def num {w : ℕ} (b : BitVec w) : EReal := ((b.toInt : ℝ) : EReal)

/-- Row `a` of block `q`, and column `b` of ring `j`'s columns. -/
def rowAt (q : Dev nD) (a : Fin 256) : Fin 4096 := ⟨256 * q.val + a.val, by have := q.isLt; have h : nD = 16 := rfl; omega⟩
def colAt (j : Fin 4) (b : Fin 512) : Fin 2048 := ⟨512 * j.val + b.val, by omega⟩

/-- The product of the integers `X` and `W` at row `r` and column `n`. -/
def cell (X : Vec Ideal S4096x256 .i8) (W : Vec Ideal S256x2048 .i8) (r : Fin 4096) (n : Fin 2048) : EReal :=
  ∑ k : Fin 256, num (X (ix2 r k)) * num (W (ix2 k n))

variable (xs : Dev nD → Vec Ideal S4096x256 .i8) (ws : Dev nD → Vec Ideal S256x2048 .i8)

theorem xrow_apply (c q : Dev nD) (a k : Fin 256) : xrow xs c q (ix2 a k) = num (xs c (ix2 (rowAt q a) k)) := by
  unfold xrow xbV
  rw [shapeCast_self, shapeCast_self]
  show num (xs c _) = _
  congr 2
  funext d
  apply Fin.ext
  match d with
  | ⟨0, _⟩ => show 256 * q.val + 1 * a.val = 256 * q.val + a.val; omega
  | ⟨1, _⟩ => show 0 + 1 * k.val = k.val; omega

theorem wcol_apply (c : Dev nD) (j : Fin 4) (k : Fin 256) (b : Fin 512) : wcol ws c j (ix2 k b) = num (ws c (ix2 k (colAt j b))) := by
  unfold wcol wbV
  rw [shapeCast_self, shapeCast_self]
  show num (ws c _) = _
  congr 2
  funext d
  apply Fin.ext
  match d with
  | ⟨0, _⟩ => show 0 + 1 * k.val = k.val; omega
  | ⟨1, _⟩ => show 512 * j.val + 1 * b.val = 512 * j.val + b.val; omega

theorem prod_apply (xv : Vec Ideal S256x256 .bf16) (wv : Vec Ideal S256x512 .bf16) (a : Fin 256) (b : Fin 512) :
    prod xv wv (ix2 a b) = ∑ k : Fin 256, xv (ix2 a k) * wv (ix2 k b) := by
  have h : prod xv wv (ix2 a b) = Ideal.ofBits .f32 0x00000000#32 + ∑ k : Fin 256, xv (ix2 a k) * wv (ix2 k b) :=
    Ideal.matmul_plain_apply none xv wv (constant S256x512 .f32 0x00000000#32) a b
  rw [h, show Ideal.ofBits .f32 0x00000000#32 = 0 by simp [Ideal.ofBits, Ideal.ieee], zero_add]

/-- A device's share of a block, at an entry. -/
theorem own_apply (j : Fin 4) (q c : Dev nD) (a : Fin 256) (b : Fin 512) :
    prod (xrow xs c q) (wcol ws c j) (ix2 a b) = cell (xs c) (ws c) (rowAt q a) (colAt j b) := by
  rw [prod_apply]
  exact Finset.sum_congr rfl fun k _ => congrArg₂ _ (xrow_apply xs c q a k) (wcol_apply ws c j k b)

theorem share_apply (j : Fin 4) (q c : Dev nD) (a : Fin 256) (b : Fin 512) :
    share xs ws j q c (ix2 a b) = cell (xs c) (ws c) (rowAt q a) (colAt j b) := own_apply xs ws j q c a b

/-- What device `c` sends at hop `h`: the shares of itself and of the `h` devices behind it. -/
theorem acc_apply (j : Fin 4) (a : Fin 256) (b : Fin 512) : ∀ (h : ℕ) (c : Dev nD),
    acc xs ws j h c (ix2 a b)
      = ∑ i ∈ Finset.range (h + 1), cell (xs ((prv j)^[i] c)) (ws ((prv j)^[i] c)) (rowAt ((prv j)^[h + 1] c) a) (colAt j b)
  | 0, c => by rw [Finset.sum_range_one]; exact share_apply xs ws j (prv j c) c a b
  | h + 1, c => by
    rw [Finset.sum_range_succ', add_comm (Finset.sum _ _)]
    exact congrArg₂ (fun u v : EReal => u + v) (share_apply xs ws j _ c a b) (acc_apply j a b h (prv j c))

/-- The sixteen devices are those met going back along a ring. -/
theorem ring_all (j : Fin 4) (c : Dev nD) : Function.Bijective (fun i : Fin 16 => (prv j)^[i.val] c) :=
  (Fintype.bijective_iff_injective_and_card _).mpr ⟨by revert j c; decide +kernel, rfl⟩

/-- A device's own share and what came round to it: the shares of all sixteen devices. -/
theorem result_apply (s t : Ideal .f32) (j : Fin 4) (c : Dev nD) (a : Fin 256) (b : Fin 512) :
    result xs ws s t j c (ix2 a b) = (∑ d : Dev nD, cell (xs d) (ws d) (rowAt c a) (colAt j b)) * (s * t : EReal) := by
  have h1 : result xs ws s t j c (ix2 a b)
      = ((prod (xrow xs c c) (wcol ws c j) (ix2 a b) : EReal) + (ofSlot (toSlot (acc xs ws j 14 (prv j c))) (ix2 a b) : EReal)) * (s * t : EReal) := rfl
  rw [h1, ofSlot_toSlot, own_apply, acc_apply]
  have h2 : (prv j)^[14 + 1] (prv j c) = c := prv_sixteen j c
  rw [h2]
  congr 1
  rw [← (ring_all j c).sum_comp (fun d => cell (xs d) (ws d) (rowAt c a) (colAt j b)),
    Fin.sum_univ_eq_sum_range (fun i => cell (xs ((prv j)^[i] c)) (ws ((prv j)^[i] c)) (rowAt c a) (colAt j b)) 16,
    Finset.sum_range_succ' _ 15, add_comm (Finset.sum _ _)]
  rfl

/-- Device `c`'s block of the result, at an entry. -/
theorem resV_apply (s t : Ideal .f32) (c : Dev nD) (a : Fin 256) (n : Fin 2048) :
    resV xs ws s t c (ix2 a n) = (∑ d : Dev nD, cell (xs d) (ws d) (rowAt c a) n) * (s * t : EReal) := by
  have h := result_apply xs ws s t ⟨n.val / 512, by omega⟩ c a ⟨n.val % 512, by omega⟩
  have hn : colAt ⟨n.val / 512, by omega⟩ ⟨n.val % 512, by omega⟩ = n := Fin.ext (Nat.div_add_mod n.val 512)
  rw [hn] at h
  rw [← h]
  unfold resV
  congr 1
  funext d
  match d with
  | ⟨0, _⟩ => rfl
  | ⟨1, _⟩ => rfl

end Cert.KernelIdeal.Rings

end
-- ==== Proof.RefValue.lean ====
/-
# What the reference computes, over the reals

An entry of the product of the whole matrices, times the two scales.
-/
module

public import proofs.«01_k».proof.Proof.Sums
public import proofs.«01_k».proof.Proof.Gen.ReferenceIdeal
public import Idealize.ShloMosaic.Lib.StackMember

@[expose] public section

set_option maxRecDepth 8000

noncomputable section

namespace Cert.ReferenceIdeal.Whole

open Cert.ReferenceIdeal Cert.ReferenceIdeal.Gen Cert.KernelIdeal.Rings
open Idealize.ShloMosaic Idealize.ShloMosaic.TcCoe Idealize.ShloMosaic.ValueIdx
open scoped BigOperators

/-- The reference's result, of its four arguments. -/
def refV (A : Vec Ideal S4096x4096 .i8) (B : Vec Ideal S4096x2048 .i8) (s t : FVec Ideal S1 .f32) : FVec Ideal S4096x2048 .f32 :=
  mulf (F := Ideal) (Host.dotGeneral dot_S4096x4096_S4096x2048_S4096x2048_1_0_0_1_n_n none (sitofp .f32 (extsi 32 A natLt_8_32)) (sitofp .f32 (extsi 32 B natLt_8_32)))
    (broadcastInDim S4096x2048 ![0, 1] bcast_S1x1_S4096x2048_0_1 (broadcastInDim S1x1 ![1] bcast_S1_S1x1_1 (mulf (F := Ideal) s t)))

/-- A signed integer made wider is the same integer. -/
theorem num_wide (b : BitVec 8) : num (b.signExtend 32) = num b := by
  unfold num
  rw [BitVec.toInt_signExtend_of_le (by decide)]

theorem refV_apply (A : Vec Ideal S4096x4096 .i8) (B : Vec Ideal S4096x2048 .i8) (s t : Vec Ideal S1 .f32) (r : Fin 4096) (n : Fin 2048) :
    refV A B s t (ix2 r n) = (∑ k : Fin 4096, num (A (ix2 r k)) * num (B (ix2 k n))) * (scl s * scl t : EReal) := by
  refine congrArg₂ (α := EReal) (β := EReal) (γ := EReal) HMul.hMul ?_ ?_
  · refine (StackMember.dotGeneral_plain_apply none _ _ r n).trans (Finset.sum_congr rfl fun k _ => ?_)
    exact congrArg₂ (fun u v : EReal => u * v) (num_wide (A (ix2 r k))) (num_wide (B (ix2 k n)))
  · have one : ∀ i i' : S1.Idx, i = i' := fun i i' => funext fun a => match a with
      | ⟨0, _⟩ => Subsingleton.elim (α := Fin 1) _ _
    exact congrArg (mulf (F := Ideal) (φ := .f32) s t) (one _ _)

end Cert.ReferenceIdeal.Whole

end
-- ==== Proof.Equation.lean ====
/-
# The two results are one

The reference's sum over 4096 products is the sum over the sixteen devices of the sums over the 256 each holds.
-/
module

public import proofs.«01_k».proof.Proof.RefValue
public import Idealize.ShloMosaic.Lib.Layout

@[expose] public section

set_option maxRecDepth 8000

noncomputable section

namespace Cert.KernelIdeal.Rings

open Cert.KernelIdeal Cert.KernelIdeal.Gen Cert.ReferenceIdeal.Whole
open Idealize.ShloMosaic Idealize.ShloMosaic.TcCoe Idealize.ShloMosaic.ValueIdx
open scoped BigOperators

/-- A sum over 4096 terms, by sixteen blocks of 256. -/
theorem sum_blocks (f : Fin 4096 → EReal) : ∑ k, f k = ∑ d : Dev nD, ∑ k : Fin 256, f (rowAt d k) := by
  rw [← (finProdFinEquiv (m := 16) (n := 256)).sum_comp f, Fintype.sum_prod_type]
  refine Finset.sum_congr rfl fun d _ => Finset.sum_congr rfl fun k _ => congrArg f (Fin.ext ?_)
  show k.val + 256 * d.val = 256 * d.val + k.val
  omega

/-- Device `c`'s columns of the left matrix, and its rows of an array cut by rows. -/
theorem cols_apply {α : Type} (A : (⟨2, ![4096, 4096]⟩ : Shape).Idx → α) (c : Dev nD) (r : Fin 4096) (k : Fin 256) :
    Layout.block ⟨2, ![4096, 256]⟩ ⟨2, ![4096, 4096]⟩ 1 16 c A (by decide) (ix2 r k) = A (ix2 r (rowAt c k)) := by
  refine congrArg A (funext fun a => Fin.ext ?_)
  match a with
  | ⟨0, _⟩ => rfl
  | ⟨1, _⟩ => show c.val * 256 + k.val = 256 * c.val + k.val; omega

theorem rows_apply {α : Type} (B : (⟨2, ![4096, 2048]⟩ : Shape).Idx → α) (c : Dev nD) (k : Fin 256) (n : Fin 2048) :
    Layout.block ⟨2, ![256, 2048]⟩ ⟨2, ![4096, 2048]⟩ 0 16 c B (by decide) (ix2 k n) = B (ix2 (rowAt c k) n) := by
  refine congrArg B (funext fun a => Fin.ext ?_)
  match a with
  | ⟨0, _⟩ => show c.val * 256 + k.val = 256 * c.val + k.val; omega
  | ⟨1, _⟩ => rfl

variable (xs : Dev nD → Vec Ideal S4096x256 .i8) (ws : Dev nD → Vec Ideal S256x2048 .i8) (s t : Vec Ideal S1 .f32)
  (A : Vec Ideal ⟨2, ![4096, 4096]⟩ .i8) (B : Vec Ideal ⟨2, ![4096, 2048]⟩ .i8)
  (hx : ∀ d, xs d = Layout.block ⟨2, ![4096, 256]⟩ ⟨2, ![4096, 4096]⟩ 1 16 d A)
  (hw : ∀ d, ws d = Layout.block ⟨2, ![256, 2048]⟩ ⟨2, ![4096, 2048]⟩ 0 16 d B)

include hx hw

/-- With the devices' operands blocks of the whole matrices, an entry of device `c`'s result is the reference's entry. -/
theorem equation_apply (c : Dev nD) (a : Fin 256) (n : Fin 2048) :
    resV xs ws (scl s) (scl t) c (ix2 a n) = refV A B s t (ix2 (rowAt c a) n) := by
  refine (resV_apply xs ws (scl s) (scl t) c a n).trans (Eq.trans ?_ (refV_apply A B s t (rowAt c a) n).symm)
  rw [sum_blocks]
  refine congrArg (fun u : EReal => u * (scl s * scl t : EReal)) ?_
  refine Finset.sum_congr rfl fun d _ => Finset.sum_congr rfl fun k _ => ?_
  rw [hx d, hw d]
  exact congrArg₂ (fun u v => num u * num v) (cols_apply A d (rowAt c a) k) (rows_apply B d k n)

/-- Device `c`'s result is block `c` of the reference's. -/
theorem equation (c : Dev nD) :
    resV xs ws (scl s) (scl t) c = Layout.block ⟨2, ![256, 2048]⟩ ⟨2, ![4096, 2048]⟩ 0 16 c (refV A B s t) := by
  funext p
  obtain ⟨a, n, rfl⟩ : ∃ (a : Fin 256) (n : Fin 2048), p = ix2 a n := ⟨p 0, p 1, eq_ix2 p⟩
  exact (equation_apply xs ws s t A B hx hw c a n).trans (rows_apply (refV A B s t) c a n).symm

end Cert.KernelIdeal.Rings

end
-- ==== Proof.lean ====
/-
# The claims

The kernel's run (Proof/Launch.lean) gives both frames; the reference is a host program whose run is generated; the equation
of the two results is Proof/Equation.lean.
-/
module

public import proofs.«01_k».proof.Defs
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

set_option maxRecDepth 8000

noncomputable section

namespace Cert.Proof

open Idealize.ShloMosaic Idealize.ShloMosaic.TcCoe Idealize.SL.Sem
open Cert.KernelIdeal.Rings

/-- The two programs are one text, so the claim about the one is the claim about the other. -/
theorem same_text : Cert.quiescent_Kernel = Cert.KernelIdeal.Rings.Quiescent Bits := by sl_kernel_rfl

/-- The kernel as printed: the run at the machine's float values. -/
theorem frame_kernel : Cert.quiescent_Kernel := same_text.mpr run_quiescent

/-- The kernel over the reals. -/
theorem frame_ideal : Cert.quiescent_KernelIdeal := fun m ρ _ =>
  (θ_run Cert.KernelIdeal.defs _ _).mono (fun _ h => ⟨fun c => (h.1 c).2, h.2⟩) (run_ends (F := Ideal) m ρ)

/-- The reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals the kernel's results are the blocks of the reference's. -/
theorem equal_results : Cert.algebraic_KernelIdeal_ReferenceIdeal := fun m ρ m' ρ' _ args => by
  refine ⟨Cert.ReferenceIdeal.Whole.refV _ _ _ _,
    (θ_run Cert.KernelIdeal.defs _ _).mono (fun r h c => ⟨(h.1 c).1.trans ?_, (h.1 c).2⟩) (run_ends (F := Ideal) m ρ),
    (θ_run Cert.ReferenceIdeal.defs _ _).mono (fun r h => h 0) (Cert.ReferenceIdeal.Value.run (F := Ideal) m' ρ')⟩
  unfold outOf
  rw [(sa_eq m ρ c).trans (args c).2.2.1, (sb_eq m ρ c).trans (args c).2.2.2]
  exact equation _ _ _ _ _ _ (fun d => (x_eq m ρ d).trans (args d).1) (fun d => (w_eq m ρ d).trans (args d).2.1) c

theorem claim : Cert.Claim := ⟨Cert.Kernel.Gen.facts, Cert.KernelIdeal.Gen.facts, Cert.ReferenceIdeal.Gen.facts,
  frame_kernel, frame_ideal, frame_reference, trivial, equal_results⟩

end Cert.Proof

end
